-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1408x1536 : Shape := ⟨3, ![6, 1408, 1536]⟩
abbrev S1536x768 : Shape := ⟨2, ![1536, 768]⟩
abbrev S1536x12 : Shape := ⟨2, ![1536, 12]⟩
abbrev S8448x1536 : Shape := ⟨2, ![8448, 1536]⟩
abbrev S6x1408 : Shape := ⟨2, ![6, 1408]⟩
abbrev S256x1536 : Shape := ⟨2, ![256, 1536]⟩
abbrev S1536x1536 : Shape := ⟨2, ![1536, 1536]⟩
abbrev S256x128 : Shape := ⟨2, ![256, 128]⟩
abbrev S66x128 : Shape := ⟨2, ![66, 128]⟩
abbrev S256x12 : Shape := ⟨2, ![256, 12]⟩
abbrev S64x128 : Shape := ⟨2, ![64, 128]⟩
abbrev S256x1 : Shape := ⟨2, ![256, 1]⟩
abbrev S32x128 : Shape := ⟨2, ![32, 128]⟩
abbrev S32 : Shape := ⟨1, ![32]⟩
abbrev S32x1 : Shape := ⟨2, ![32, 1]⟩
abbrev S128x128 : Shape := ⟨2, ![128, 128]⟩
abbrev S128 : Shape := ⟨1, ![128]⟩
abbrev S1x128 : Shape := ⟨2, ![1, 128]⟩
abbrev S256x256 : Shape := ⟨2, ![256, 256]⟩

abbrev nBuf : Space → Nat
  | .hbm => 9
  | .vmem => 15
  | .smem => 0
  | _ => 0

abbrev bufTy : (tb : Table) → Fin (tcTables nBuf tb) → BufTy
  | .hbm, ⟨0, _⟩ => ⟨S6x1408x1536, .bf16⟩
  | .hbm, ⟨1, _⟩ => ⟨S1536x768, .i8⟩
  | .hbm, ⟨2, _⟩ => ⟨S1536x12, .f32⟩
  | .hbm, ⟨3, _⟩ => ⟨S8448x1536, .bf16⟩
  | .hbm, ⟨4, _⟩ => ⟨S8448x1536, .bf16⟩
  | .hbm, ⟨5, _⟩ => ⟨S8448x1536, .i8⟩
  | .hbm, ⟨6, _⟩ => ⟨S6x1408, .f32⟩
  | .hbm, ⟨7, _⟩ => ⟨S6x1408x1536, .bf16⟩
  | .hbm, ⟨8, _⟩ => ⟨S6x1408x1536, .i8⟩
  | .local _ .vmem, ⟨0, _⟩ => ⟨S256x1536, .bf16⟩
  | .local _ .vmem, ⟨1, _⟩ => ⟨S256x1536, .bf16⟩
  | .local _ .vmem, ⟨2, _⟩ => ⟨S1536x768, .i8⟩
  | .local _ .vmem, ⟨3, _⟩ => ⟨S1536x12, .f32⟩
  | .local _ .vmem, ⟨4, _⟩ => ⟨S256x1536, .bf16⟩
  | .local _ .vmem, ⟨5, _⟩ => ⟨S256x1536, .bf16⟩
  | .local _ .vmem, ⟨6, _⟩ => ⟨S256x1536, .i8⟩
  | .local _ .vmem, ⟨7, _⟩ => ⟨S256x1536, .i8⟩
  | .local _ .vmem, ⟨8, _⟩ => ⟨S6x1408, .f32⟩
  | .local _ .vmem, ⟨9, _⟩ => ⟨S1536x1536, .bf16⟩
  | .local _ .vmem, ⟨10, _⟩ => ⟨S256x1536, .bf16⟩
  | .local _ .vmem, ⟨11, _⟩ => ⟨S256x1536, .bf16⟩
  | .local _ .vmem, ⟨12, _⟩ => ⟨S256x128, .f32⟩
  | .local _ .vmem, ⟨13, _⟩ => ⟨S256x128, .f32⟩
  | .local _ .vmem, ⟨14, _⟩ => ⟨S66x128, .f32⟩
  | _, _ => ⟨S6x1408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) (c0_i32_1316 : BitVec 32) : Fin 2 → Nat :=
  let arg0 : BitVec 32 := BitVec.ofNat 32 (i 0).val
  let c2_i32_1315 : BitVec 32 := 2#32
  let v3359 : BitVec 32 := Scalar.muli arg0 c2_i32_1315
  let v3360 : BitVec 32 := Scalar.addi v3359 c0_i32_1316
  let v3361 : Index := Scalar.indexCast v3360
  let c0_1317 : Index := 0#32
  ![v3361.toNat, 0]
def k0_cond2 (i : grid0.Coords) : BitVec 1 :=
  let arg0 : BitVec 32 := BitVec.ofNat 32 (i 0).val
  let c0_i32_0 : BitVec 32 := 0#32
  let v2 : BitVec 1 := Scalar.cmpi .sgt arg0 c0_i32_0
  let c33_i32 : BitVec 32 := 33#32
  let v3 : BitVec 1 := Scalar.cmpi .slt arg0 c33_i32
  let v4 : BitVec 1 := Scalar.andi v2 v3
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v8 : BitVec 1 := Scalar.xori v1 v_true
  let v9 : BitVec 1 := Scalar.andi v4 v8
  let v10 : BitVec 32 := Scalar.extui v9
  let c0_i32_3 : BitVec 32 := 0#32
  let v11 : BitVec 1 := Scalar.cmpi .ne v10 c0_i32_3
  v11

def k0_off2 (i : grid0.Coords) (c0_i32_956 : BitVec 32) : Fin 2 → Nat :=
  let arg0 : BitVec 32 := BitVec.ofNat 32 (i 0).val
  let c2_i32_955 : BitVec 32 := 2#32
  let v2401 : BitVec 32 := Scalar.muli arg0 c2_i32_955
  let v2402 : BitVec 32 := Scalar.addi v2401 c0_i32_956
  let v2403 : Index := Scalar.indexCast v2402
  let c0_957 : Index := 0#32
  ![v2403.toNat, 0]
def k0_cond3 (i : grid0.Coords) : BitVec 1 :=
  let arg0 : BitVec 32 := BitVec.ofNat 32 (i 0).val
  let c0_i32_0 : BitVec 32 := 0#32
  let v2 : BitVec 1 := Scalar.cmpi .sgt arg0 c0_i32_0
  let c33_i32 : BitVec 32 := 33#32
  let v3 : BitVec 1 := Scalar.cmpi .slt arg0 c33_i32
  let v4 : BitVec 1 := Scalar.andi v2 v3
  let c2_i32 : BitVec 32 := 2#32
  let v0 : BitVec 32 := Scalar.remsi arg0 c2_i32
  let c0_i32 : BitVec 32 := 0#32
  let v1 : BitVec 1 := Scalar.cmpi .eq v0 c0_i32
  let v12 : BitVec 1 := Scalar.andi v4 v1
  let v13 : BitVec 32 := Scalar.extui v12
  let c0_i32_4 : BitVec 32 := 0#32
  let v14 : BitVec 1 := Scalar.cmpi .ne v13 c0_i32_4
  v14

def k0_off3 (i : grid0.Coords) (c0_i32_956 : BitVec 32) : Fin 2 → Nat :=
  let arg0 : BitVec 32 := BitVec.ofNat 32 (i 0).val
  let c2_i32_955 : BitVec 32 := 2#32
  let v2401 : BitVec 32 := Scalar.muli arg0 c2_i32_955
  let v2402 : BitVec 32 := Scalar.addi v2401 c0_i32_956
  let v2403 : Index := Scalar.indexCast v2402
  let c0_957 : Index := 0#32
  ![v2403.toNat, 0]
def k0_cond5 (i : grid0.Coords) : BitVec 1 :=
  let arg0 : BitVec 32 := BitVec.ofNat 32 (i 0).val
  let c33_i32_7 : BitVec 32 := 33#32
  let v18 : BitVec 1 := Scalar.cmpi .eq arg0 c33_i32_7
  let c2_i32 : BitVec 32 := 2#32
  let v0 : BitVec 32 := Scalar.remsi arg0 c2_i32
  let c0_i32 : BitVec 32 := 0#32
  let v1 : BitVec 1 := Scalar.cmpi .eq v0 c0_i32
  let true_8 : BitVec 1 := 1#1
  let v19 : BitVec 1 := Scalar.xori v1 true_8
  let v20 : BitVec 1 := Scalar.andi v18 v19
  let v21 : BitVec 32 := Scalar.extui v20
  let c0_i32_9 : BitVec 32 := 0#32
  let v22 : BitVec 1 := Scalar.cmpi .ne v21 c0_i32_9
  v22

def k0_cond6 (i : grid0.Coords) : BitVec 1 :=
  let arg0 : BitVec 32 := BitVec.ofNat 32 (i 0).val
  let c33_i32_10 : BitVec 32 := 33#32
  let v23 : BitVec 1 := Scalar.cmpi .eq arg0 c33_i32_10
  let c2_i32 : BitVec 32 := 2#32
  let v0 : BitVec 32 := Scalar.remsi arg0 c2_i32
  let c0_i32 : BitVec 32 := 0#32
  let v1 : BitVec 1 := Scalar.cmpi .eq v0 c0_i32
  let v24 : BitVec 1 := Scalar.andi v23 v1
  let v25 : BitVec 32 := Scalar.extui v24
  let c0_i32_11 : BitVec 32 := 0#32
  let v26 : BitVec 1 := Scalar.cmpi .ne v25 c0_i32_11
  v26

def k0_cond4 (i : grid0.Coords) : BitVec 1 :=
  let arg0 : BitVec 32 := BitVec.ofNat 32 (i 0).val
  let c33_i32_5 : BitVec 32 := 33#32
  let v15 : BitVec 1 := Scalar.cmpi .eq arg0 c33_i32_5
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S6x1408x1536 : Shape := ⟨3, ![6, 1408, 1536]⟩
abbrev S1536x768 : Shape := ⟨2, ![1536, 768]⟩
abbrev S1536x12 : Shape := ⟨2, ![1536, 12]⟩
abbrev S12x12 : Shape := ⟨2, ![12, 12]⟩
abbrev S6x1408x12x128 : Shape := ⟨4, ![6, 1408, 12, 128]⟩
abbrev S12x6x1408x128 : Shape := ⟨4, ![12, 6, 1408, 128]⟩
abbrev S_ : Shape := ⟨0, ![]⟩
abbrev S6x1408 : Shape := ⟨2, ![6, 1408]⟩
abbrev S6x1408x1 : Shape := ⟨3, ![6, 1408, 1]⟩
abbrev S1536x6x128 : Shape := ⟨3, ![1536, 6, 128]⟩
abbrev S1536x6 : Shape := ⟨2, ![1536, 6]⟩
abbrev S1536x6x1 : Shape := ⟨3, ![1536, 6, 1]⟩
abbrev S6x1408x768 : Shape := ⟨3, ![6, 1408, 768]⟩

abbrev nBuf : Space → Nat
  | .hbm => 88
  | .vmem => 0
  | .smem => 0
  | _ => 0

abbrev bufTy : (tb : Table) → Fin (tcTables nBuf tb) → BufTy
  | .hbm, ⟨0, _⟩ => ⟨S6x1408x1536, .bf16⟩
  | .hbm, ⟨1, _⟩ => ⟨S1536x768, .i8⟩
  | .hbm, ⟨2, _⟩ => ⟨S1536x12, .f32⟩
  | .hbm, ⟨3, _⟩ => ⟨S12x12, .f32⟩
  | .hbm, ⟨4, _⟩ => ⟨S6x1408x12x128, .bf16⟩
  | .hbm, ⟨5, _⟩ => ⟨S6x1408x12x128, .f32⟩
  | .hbm, ⟨6, _⟩ => ⟨S12x6x1408x128, .f32⟩
  | .hbm, ⟨7, _⟩ => ⟨S6x1408x12x128, .f32⟩
  | .hbm, ⟨8, _⟩ => ⟨S_, .f32⟩
  | .hbm, ⟨9, _⟩ => ⟨S6x1408x12x128, .f32⟩
  | .hbm, ⟨10, _⟩ => ⟨S6x1408x12x128, .f32⟩
  | .hbm, ⟨11, _⟩ => ⟨S6x1408x1536, .f32⟩
  | .hbm, ⟨12, _⟩ => ⟨S6x1408x1536, .f32⟩
  | .hbm, ⟨13, _⟩ => ⟨S_, .f32⟩
  | .hbm, ⟨14, _⟩ => ⟨S6x1408, .f32⟩
  | .hbm, ⟨15, _⟩ => ⟨S_, .f32⟩
  | .hbm, ⟨16, _⟩ => ⟨S6x1408, .f32⟩
  | .hbm, ⟨17, _⟩ => ⟨S6x1408, .i1⟩
  | .hbm, ⟨18, _⟩ => ⟨S_, .f32⟩
  | .hbm, ⟨19, _⟩ => ⟨S6x1408, .f32⟩
  | .hbm, ⟨20, _⟩ => ⟨S6x1408, .f32⟩
  | .hbm, ⟨21, _⟩ => ⟨S_, .f32⟩
  | .hbm, ⟨22, _⟩ => ⟨S6x1408, .f32⟩
  | .hbm, ⟨23, _⟩ => ⟨S6x1408, .f32⟩
  | .hbm, ⟨24, _⟩ => ⟨S6x1408x1, .f32⟩
  | .hbm, ⟨25, _⟩ => ⟨S6x1408x1536, .f32⟩
  | .hbm, ⟨26, _⟩ => ⟨S6x1408x1536, .f32⟩
  | .hbm, ⟨27, _⟩ => ⟨S6x1408x1536, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S6x1408x1536, .f32⟩
  | .hbm, ⟨32, _⟩ => ⟨S6x1408x1536, .f32⟩
  | .hbm, ⟨33, _⟩ => ⟨S_, .f32⟩
  | .hbm, ⟨34, _⟩ => ⟨S6x1408x1536, .f32⟩
  | .hbm, ⟨35, _⟩ => ⟨S6x1408x1536, .f32⟩
  | .hbm, ⟨36, _⟩ => ⟨S6x1408x1536, .i32⟩
  | .hbm, ⟨37, _⟩ => ⟨S6x1408x1536, .i8⟩
  | .hbm, ⟨38, _⟩ => ⟨S1536x768, .i32⟩
  | .hbm, ⟨39, _⟩ => ⟨S_, .i32⟩
  | .hbm, ⟨40, _⟩ => ⟨S1536x768, .i32⟩
  | .hbm, ⟨41, _⟩ => ⟨S1536x768, .i32⟩
  | .hbm, ⟨42, _⟩ => ⟨S_, .i32⟩
  | .hbm, ⟨43, _⟩ => ⟨S1536x768, .i32⟩
  | .hbm, ⟨44, _⟩ => ⟨S1536x768, .i1⟩
  | .hbm, ⟨45, _⟩ => ⟨S1536x768, .i32⟩
  | .hbm, ⟨46, _⟩ => ⟨S_, .i32⟩
  | .hbm, ⟨47, _⟩ => ⟨S1536x768, .i32⟩
  | .hbm, ⟨48, _⟩ => ⟨S1536x768, .i32⟩
  | .hbm, ⟨49, _⟩ => ⟨S1536x768, .i32⟩
  | .hbm, ⟨50, _⟩ => ⟨S1536x768, .i32⟩
  | .hbm, ⟨51, _⟩ => ⟨S_, .i32⟩
  | .hbm, ⟨52, _⟩ => ⟨S1536x768, .i32⟩
  | .hbm, ⟨53, _⟩ => ⟨S1536x768, .i32⟩
  | .hbm, ⟨54, _⟩ => ⟨S_, .i32⟩
  | .hbm, ⟨55, _⟩ => ⟨S1536x768, .i32⟩
  | .hbm, ⟨56, _⟩ => ⟨S1536x768, .i1⟩
  | .hbm, ⟨57, _⟩ => ⟨S1536x768, .i32⟩
  | .hbm, ⟨58, _⟩ => ⟨S_, .i32⟩
  | .hbm, ⟨59, _⟩ => ⟨S1536x768, .i32⟩
  | .hbm, ⟨60, _⟩ => ⟨S1536x768, .i32⟩
  | .hbm, ⟨61, _⟩ => ⟨S1536x768, .i32⟩
  | .hbm, ⟨62, _⟩ => ⟨S1536x12, .bf16⟩
  | .hbm, ⟨63, _⟩ => ⟨S1536x768, .bf16⟩
  | .hbm, ⟨64, _⟩ => ⟨S1536x6x128, .bf16⟩
  | .hbm, ⟨65, _⟩ => ⟨S1536x6, .bf16⟩
  | .hbm, ⟨66, _⟩ => ⟨S1536x6x1, .bf16⟩
  | .hbm, ⟨67, _⟩ => ⟨S1536x6x128, .bf16⟩
  | .hbm, ⟨68, _⟩ => ⟨S1536x6x128, .bf16⟩
  | .hbm, ⟨69, _⟩ => ⟨S1536x768, .bf16⟩
  | .hbm, ⟨70, _⟩ => ⟨S1536x768, .bf16⟩
  | .hbm, ⟨71, _⟩ => ⟨S1536x6x128, .bf16⟩
  | .hbm, ⟨72, _⟩ => ⟨S1536x6, .bf16⟩
  | .hbm, ⟨73, _⟩ => ⟨S1536x6x1, .bf16⟩
  | .hbm, ⟨74, _⟩ => ⟨S1536x6x128, .bf16⟩
  | .hbm, ⟨75, _⟩ => ⟨S1536x6x128, .bf16⟩
  | .hbm, ⟨76, _⟩ => ⟨S1536x768, .bf16⟩
  | .hbm, ⟨77, _⟩ => ⟨S6x1408x1536, .i32⟩
  | .hbm, ⟨78, _⟩ => ⟨S6x1408x1536, .bf16⟩
  | .hbm, ⟨79, _⟩ => ⟨S6x1408x768, .bf16⟩
  | .hbm, ⟨80, _⟩ => ⟨S6x1408x1536, .f32⟩
  | .hbm, ⟨81, _⟩ => ⟨S6x1408x768, .bf16⟩
  | .hbm, ⟨82, _⟩ => ⟨S6x1408x1536, .f32⟩
  | .hbm, ⟨83, _⟩ => ⟨S6x1408x1536, .f32⟩
  | .hbm, ⟨84, _⟩ => ⟨S6x1408x1, .f32⟩
  | .hbm, ⟨85, _⟩ => ⟨S6x1408x1536, .f32⟩
  | .hbm, ⟨86, _⟩ => ⟨S6x1408x1536, .f32⟩
  | .hbm, ⟨87, _⟩ => ⟨S6x1408x1536, .bf16⟩
  | _, _ => ⟨S6x1408x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_cst_6 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Proof.ForgetKernel.Runs.lean ====
/- What the four runs of the body share: the region around the kernel, the windows' blocks, the branch conditions
   in closed form over the grid points, and the staging and scratch buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2, main_v3}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, k0_cond1, e0]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := k0_cond2 i = 1#1
/-- It holds at points 1, 3, 5, 7, 9, 11, 13, 15, 17, 19, 21, 23, 25, 27, 29 and 31 only — decided over the grid. -/
theorem hcond0_1 : ∀ t : Fin cfg0.N, cond0_1 (grid0.coords t) ↔ (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31) :=
  (by decide +kernel : ∀ t : Fin grid0.N, cond0_1 (grid0.coords t) ↔ (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31))

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28, 30 and 32 only — decided over the grid. -/
theorem hcond0_2 : ∀ t : Fin cfg0.N, cond0_2 (grid0.coords t) ↔ (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32) :=
  (by decide +kernel : ∀ t : Fin grid0.N, cond0_2 (grid0.coords t) ↔ (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 34 = 33 :=
  (fun t => by
    have ht : t.val < 34 := Nat.lt_of_lt_of_eq t.isLt N_0
    have e0 : (grid0.coords t 0).val = t.val / 1 % 34 := Pipeline.Grid.coords_val t 0 (by decide) rfl
    simp only [cond0_3, k0_cond4, e0]
    word_cmp
   : ∀ t : Fin grid0.N, cond0_3 (grid0.coords t) ↔ t.val % 34 = 33)

/-- The condition of the body's `scf.if` 4 (`k0_h5`), from the grid coordinates (the skeleton's scalar
    chain substituted). -/
abbrev cond0_4 (i : grid0.Coords) : Prop := k0_cond5 i = 1#1
/-- It holds at the last point only — decided over the grid. -/
theorem hcond0_4 : ∀ t : Fin cfg0.N, cond0_4 (grid0.coords t) ↔ t.val % 34 = 33 :=
  (by decide +kernel : ∀ t : Fin grid0.N, cond0_4 (grid0.coords t) ↔ t.val % 34 = 33)

/-- The condition of the body's `scf.if` 5 (`k0_h6`), from the grid coordinates (the skeleton's scalar
    chain substituted). -/
abbrev cond0_5 (i : grid0.Coords) : Prop := k0_cond6 i = 1#1
/-- It holds at no point — decided over the grid. -/
theorem hcond0_5 : ∀ t : Fin cfg0.N, ¬cond0_5 (grid0.coords t) :=
  (by decide +kernel : ∀ t : Fin grid0.N, ¬cond0_5 (grid0.coords t))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x1408 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x1536 .bf16 := Memref.whole cc0_scratch0
abbrev scM0_1 : Memref sig .tc .vmem S256x1536 .bf16 := Memref.whole cc0_scratch1
abbrev scM0_2 : Memref sig .tc .vmem S256x1536 .bf16 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S66x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Whole

end
-- ==== Proof.ForgetKernel.RunA.lean ====
/- The body's run in case A of its branch conditions, with nothing named of what it stores. -/
module

public import proofs.«01_k».proof.Proof.ForgetKernel.Runs

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4440000 in
/-- The body's triple IN CASE A (`scf.if` 0 taken, `scf.if` 1 not taken, `scf.if` 2 not taken, `scf.if` 3 not taken, `scf.if` 4 not taken, `scf.if` 5 not taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : cond0_0 i) (hc1 : ¬cond0_1 i) (hc2 : ¬cond0_2 i) (hc3 : ¬cond0_3 i) (hc4 : ¬cond0_4 i) (hc5 : ¬cond0_5 i)
    (x0 : Vec F S256x1536 .bf16) (x1 : Vec F S1536x768 .i8) (x2 : Vec F S1536x12 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K := by
    intro E K
    simp only [cc0_w4a4_oproj_eq_skeleton]; unfold cc0_w4a4_oproj_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part84_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Whole

end
-- ==== Proof.ForgetKernel.RunB.lean ====
/- The body's run in case B of its branch conditions, with nothing named of what it stores. -/
module

public import proofs.«01_k».proof.Proof.ForgetKernel.RunA

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3340000 in
/-- The body's triple IN CASE B (`scf.if` 0 not taken, `scf.if` 1 taken, `scf.if` 2 not taken, `scf.if` 3 not taken, `scf.if` 4 not taken, `scf.if` 5 not taken: points 1, 3, … 31: 16 of 34): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : cond0_1 i) (hc2 : ¬cond0_2 i) (hc3 : ¬cond0_3 i) (hc4 : ¬cond0_4 i) (hc5 : ¬cond0_5 i)
    (x0 : Vec F S256x1536 .bf16) (x1 : Vec F S1536x768 .i8) (x2 : Vec F S1536x12 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K := by
    intro E K
    simp only [cc0_w4a4_oproj_eq_skeleton]; unfold cc0_w4a4_oproj_skel
    simp only [k0_part144_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Whole

end
-- ==== Proof.ForgetKernel.RunC.lean ====
/- The body's run in case C of its branch conditions, with nothing named of what it stores. -/
module

public import proofs.«01_k».proof.Proof.ForgetKernel.RunB

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3340000 in
/-- The body's triple IN CASE C (`scf.if` 0 not taken, `scf.if` 1 not taken, `scf.if` 2 taken, `scf.if` 3 not taken, `scf.if` 4 not taken, `scf.if` 5 not taken: points 2, 4, … 32: 16 of 34): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : ¬cond0_1 i) (hc2 : cond0_2 i) (hc3 : ¬cond0_3 i) (hc4 : ¬cond0_4 i) (hc5 : ¬cond0_5 i)
    (x0 : Vec F S256x1536 .bf16) (x1 : Vec F S1536x768 .i8) (x2 : Vec F S1536x12 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K := by
    intro E K
    simp only [cc0_w4a4_oproj_eq_skeleton]; unfold cc0_w4a4_oproj_skel
    simp only [k0_part204_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Whole

end
-- ==== Proof.ForgetKernel.RunD.lean ====
/- The body's run in case D of its branch conditions, with nothing named of what it stores. -/
module

public import proofs.«01_k».proof.Proof.ForgetKernel.RunC

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1168000 in
/-- The body's triple IN CASE D (`scf.if` 0 not taken, `scf.if` 1 not taken, `scf.if` 2 not taken, `scf.if` 3 taken, `scf.if` 4 taken, `scf.if` 5 not taken: points 33): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : ¬cond0_1 i) (hc2 : ¬cond0_2 i) (hc3 : cond0_3 i) (hc4 : cond0_4 i) (hc5 : ¬cond0_5 i)
    (x0 : Vec F S256x1536 .bf16) (x1 : Vec F S1536x768 .i8) (x2 : Vec F S1536x12 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K := by
    intro E K
    simp only [cc0_w4a4_oproj_eq_skeleton]; unfold cc0_w4a4_oproj_skel
    simp only [k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Whole

end
-- ==== Proof.ForgetKernel.Frame.lean ====
/- The frame of the program: every fair run ends, the arguments are unchanged and every counter is back at zero.
   Nothing is named of what the kernel leaves in its outputs. -/
module

public import proofs.«01_k».proof.Proof.ForgetKernel.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 34 := lt_of_lt_of_eq t.isLt (show cfg0.N = 34 from N_0)
  by_cases h0 : t.val % 34 = 0
  · by_cases h1 : (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)
    · exfalso; omega
    · by_cases h2 : (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)
      · exfalso; omega
      · by_cases h3 : t.val % 34 = 33
        · exfalso; omega
        · by_cases h4 : t.val % 34 = 33
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (hcond0_5 t) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [HS0]; · iexact HS0
            isplitl [HS1]; · iexact HS1
            isplitl [HS2]; · iexact HS2
            isplitl [HS3]; · iexact HS3
            isplitl [HS4]; · iexact HS4
            isplitl [HS5]; · iexact HS5
            iintro ⟨H0, H1, H2, H3, H4, H5, HS0, HS1, HS2, HS3, HS4, HS5⟩
            isplitl [HS0 HS1 HS2 HS3 HS4 HS5 Hg]
            · isplitl [HS0 HS1 HS2 HS3 HS4 HS5]
              · isplitl [HS0]
                · iexact HS0
                isplitl [HS1]
                · iexact HS1
                isplitl [HS2]
                · iexact HS2
                isplitl [HS3]
                · iexact HS3
                isplitl [HS4]
                · iexact HS4
                iexact HS5
              iexact Hg
            isplitl [Ho]; · iexact Ho
            isplitl [H0]; · iexact H0
            isplitl [H1]; · iexact H1
            isplitl [H2]; · iexact H2
            isplitl [H3]; · iexact H3
            isplitl [H4]; · iexact H4
            iexact H5
  · by_cases h1 : (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)
    · by_cases h2 : (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)
      · exfalso; omega
      · by_cases h3 : t.val % 34 = 33
        · exfalso; omega
        · by_cases h4 : t.val % 34 = 33
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [HS0]; · iexact HS0
            isplitl [HS1]; · iexact HS1
            isplitl [HS2]; · iexact HS2
            isplitl [HS3]; · iexact HS3
            isplitl [HS4]; · iexact HS4
            isplitl [HS5]; · iexact HS5
            iintro ⟨H0, H1, H2, H3, H4, H5, HS0, HS1, HS2, HS3, HS4, HS5⟩
            isplitl [HS0 HS1 HS2 HS3 HS4 HS5 Hg]
            · isplitl [HS0 HS1 HS2 HS3 HS4 HS5]
              · isplitl [HS0]
                · iexact HS0
                isplitl [HS1]
                · iexact HS1
                isplitl [HS2]
                · iexact HS2
                isplitl [HS3]
                · iexact HS3
                isplitl [HS4]
                · iexact HS4
                iexact HS5
              iexact Hg
            isplitl [Ho]; · iexact Ho
            isplitl [H0]; · iexact H0
            isplitl [H1]; · iexact H1
            isplitl [H2]; · iexact H2
            isplitl [H3]; · iexact H3
            isplitl [H4]; · iexact H4
            iexact H5
    · by_cases h2 : (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)
      · by_cases h3 : t.val % 34 = 33
        · exfalso; omega
        · by_cases h4 : t.val % 34 = 33
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [HS0]; · iexact HS0
            isplitl [HS1]; · iexact HS1
            isplitl [HS2]; · iexact HS2
            isplitl [HS3]; · iexact HS3
            isplitl [HS4]; · iexact HS4
            isplitl [HS5]; · iexact HS5
            iintro ⟨H0, H1, H2, H3, H4, H5, HS0, HS1, HS2, HS3, HS4, HS5⟩
            isplitl [HS0 HS1 HS2 HS3 HS4 HS5 Hg]
            · isplitl [HS0 HS1 HS2 HS3 HS4 HS5]
              · isplitl [HS0]
                · iexact HS0
                isplitl [HS1]
                · iexact HS1
                isplitl [HS2]
                · iexact HS2
                isplitl [HS3]
                · iexact HS3
                isplitl [HS4]
                · iexact HS4
                iexact HS5
              iexact Hg
            isplitl [Ho]; · iexact Ho
            isplitl [H0]; · iexact H0
            isplitl [H1]; · iexact H1
            isplitl [H2]; · iexact H2
            isplitl [H3]; · iexact H3
            isplitl [H4]; · iexact H4
            iexact H5
      · by_cases h3 : t.val % 34 = 33
        · by_cases h4 : t.val % 34 = 33
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
            iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (hcond0_5 t) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [HS0]; · iexact HS0
            isplitl [HS1]; · iexact HS1
            isplitl [HS2]; · iexact HS2
            isplitl [HS3]; · iexact HS3
            isplitl [HS4]; · iexact HS4
            isplitl [HS5]; · iexact HS5
            iintro ⟨H0, H1, H2, H3, H4, H5, HS0, HS1, HS2, HS3, HS4, HS5⟩
            isplitl [HS0 HS1 HS2 HS3 HS4 HS5 Hg]
            · isplitl [HS0 HS1 HS2 HS3 HS4 HS5]
              · isplitl [HS0]
                · iexact HS0
                isplitl [HS1]
                · iexact HS1
                isplitl [HS2]
                · iexact HS2
                isplitl [HS3]
                · iexact HS3
                isplitl [HS4]
                · iexact HS4
                iexact HS5
              iexact Hg
            isplitl [Ho]; · iexact Ho
            isplitl [H0]; · iexact H0
            isplitl [H1]; · iexact H1
            isplitl [H2]; · iexact H2
            isplitl [H3]; · iexact H3
            isplitl [H4]; · iexact H4
            iexact H5
          · exfalso; omega
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Whole.facts, fun m ρ _ => Cert.Kernel.Whole.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Whole

end
-- ==== Proof.Val.Runs.lean ====
/- What the four runs of the body share: the region around the kernel, the windows' blocks, the branch conditions in
   closed form over the grid points, and the staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, k0_cond1, e0]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := k0_cond2 i = 1#1
/-- It holds at points 1, 3, 5, 7, 9, 11, 13, 15, 17, 19, 21, 23, 25, 27, 29 and 31 only — decided over the grid. -/
theorem hcond0_1 : ∀ t : Fin cfg0.N, cond0_1 (grid0.coords t) ↔ (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31) :=
  (by decide +kernel : ∀ t : Fin grid0.N, cond0_1 (grid0.coords t) ↔ (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31))

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28, 30 and 32 only — decided over the grid. -/
theorem hcond0_2 : ∀ t : Fin cfg0.N, cond0_2 (grid0.coords t) ↔ (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32) :=
  (by decide +kernel : ∀ t : Fin grid0.N, cond0_2 (grid0.coords t) ↔ (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 34 = 33 :=
  (fun t => by
    have ht : t.val < 34 := Nat.lt_of_lt_of_eq t.isLt N_0
    have e0 : (grid0.coords t 0).val = t.val / 1 % 34 := Pipeline.Grid.coords_val t 0 (by decide) rfl
    simp only [cond0_3, k0_cond4, e0]
    word_cmp
   : ∀ t : Fin grid0.N, cond0_3 (grid0.coords t) ↔ t.val % 34 = 33)

/-- The condition of the body's `scf.if` 4 (`k0_h5`), from the grid coordinates (the skeleton's scalar
    chain substituted). -/
abbrev cond0_4 (i : grid0.Coords) : Prop := k0_cond5 i = 1#1
/-- It holds at the last point only — decided over the grid. -/
theorem hcond0_4 : ∀ t : Fin cfg0.N, cond0_4 (grid0.coords t) ↔ t.val % 34 = 33 :=
  (by decide +kernel : ∀ t : Fin grid0.N, cond0_4 (grid0.coords t) ↔ t.val % 34 = 33)

/-- The condition of the body's `scf.if` 5 (`k0_h6`), from the grid coordinates (the skeleton's scalar
    chain substituted). -/
abbrev cond0_5 (i : grid0.Coords) : Prop := k0_cond6 i = 1#1
/-- It holds at no point — decided over the grid. -/
theorem hcond0_5 : ∀ t : Fin cfg0.N, ¬cond0_5 (grid0.coords t) :=
  (by decide +kernel : ∀ t : Fin grid0.N, ¬cond0_5 (grid0.coords t))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i ∧ ¬cond0_4 i ∧ ¬cond0_5 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance inferInstance))))
/-- Case B's branch conditions on the grid, as one proposition. -/
abbrev conds0_B (i : grid0.Coords) : Prop := ¬cond0_0 i ∧ cond0_1 i ∧ ¬cond0_2 i ∧ ¬cond0_3 i ∧ ¬cond0_4 i ∧ ¬cond0_5 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))
/-- Case C's branch conditions on the grid, as one proposition. -/
abbrev conds0_C (i : grid0.Coords) : Prop := ¬cond0_0 i ∧ ¬cond0_1 i ∧ cond0_2 i ∧ ¬cond0_3 i ∧ ¬cond0_4 i ∧ ¬cond0_5 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))
/-- Case D's branch conditions on the grid, as one proposition. -/
abbrev conds0_D (i : grid0.Coords) : Prop := ¬cond0_0 i ∧ ¬cond0_1 i ∧ ¬cond0_2 i ∧ cond0_3 i ∧ cond0_4 i ∧ ¬cond0_5 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))
/-- At the points of case A the printed configuration (`Cfg.idle`) calls output 3 idle: the case stores nothing into it. -/
theorem idleAt0_3_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 3 (grid0.coords t) = true :=
  fun t h0 h1 h2 h3 h4 h5 => (by decide +kernel : ∀ t : Fin cfg0.N, conds0_A (grid0.coords t) → cfg0.idle 3 (grid0.coords t) = true) t ⟨h0, h1, h2, h3, h4, h5⟩
/-- At the points of case A the pipeline does not write output 3's block back. -/
theorem noFlush0_3_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 3).flush t = false :=
  fun t h0 h1 h2 h3 h4 h5 => (by decide +kernel : ∀ t : Fin cfg0.N, conds0_A (grid0.coords t) → (cfg0.win 3).flush t = false) t ⟨h0, h1, h2, h3, h4, h5⟩
/-- At the points of case B the printed configuration (`Cfg.idle`) calls output 3 live: the case stores into it. -/
theorem liveAt0_3_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 3 (grid0.coords t) = false :=
  fun t h0 h1 h2 h3 h4 h5 => (by decide +kernel : ∀ t : Fin cfg0.N, conds0_B (grid0.coords t) → cfg0.idle 3 (grid0.coords t) = false) t ⟨h0, h1, h2, h3, h4, h5⟩
/-- At the points of case C the printed configuration (`Cfg.idle`) calls output 3 live: the case stores into it. -/
theorem liveAt0_3_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 3 (grid0.coords t) = false :=
  fun t h0 h1 h2 h3 h4 h5 => (by decide +kernel : ∀ t : Fin cfg0.N, conds0_C (grid0.coords t) → cfg0.idle 3 (grid0.coords t) = false) t ⟨h0, h1, h2, h3, h4, h5⟩
/-- At the points of case D the printed configuration (`Cfg.idle`) calls output 3 live: the case stores into it. -/
theorem liveAt0_3_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.idle 3 (grid0.coords t) = false :=
  fun t h0 h1 h2 h3 h4 h5 => (by decide +kernel : ∀ t : Fin cfg0.N, conds0_D (grid0.coords t) → cfg0.idle 3 (grid0.coords t) = false) t ⟨h0, h1, h2, h3, h4, h5⟩
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x2ffffffff : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 4 (grid0.coords t) = false :=
  fun t h0 h1 h2 h3 h4 h5 => (by decide +kernel : ∀ t : Fin cfg0.N, conds0_A (grid0.coords t) → cfg0.idle 4 (grid0.coords t) = false) t ⟨h0, h1, h2, h3, h4, h5⟩
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 4 (grid0.coords t) = false :=
  fun t h0 h1 h2 h3 h4 h5 => (by decide +kernel : ∀ t : Fin cfg0.N, conds0_B (grid0.coords t) → cfg0.idle 4 (grid0.coords t) = false) t ⟨h0, h1, h2, h3, h4, h5⟩
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 4 (grid0.coords t) = false :=
  fun t h0 h1 h2 h3 h4 h5 => (by decide +kernel : ∀ t : Fin cfg0.N, conds0_C (grid0.coords t) → cfg0.idle 4 (grid0.coords t) = false) t ⟨h0, h1, h2, h3, h4, h5⟩
/-- At the points of case D the printed configuration (`Cfg.idle`) calls output 4 idle: the case stores nothing into it. -/
theorem idleAt0_4_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.idle 4 (grid0.coords t) = true :=
  fun t h0 h1 h2 h3 h4 h5 => (by decide +kernel : ∀ t : Fin cfg0.N, conds0_D (grid0.coords t) → cfg0.idle 4 (grid0.coords t) = true) t ⟨h0, h1, h2, h3, h4, h5⟩
/-- At the points of case D, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.fresh 4 t.val = false :=
  fun t h0 h1 h2 h3 h4 h5 => (by intro t; rw [fresh0_4_eq t]; revert t; decide +kernel : ∀ t : Fin cfg0.N, conds0_D (grid0.coords t) → cfg0.fresh 4 t.val = false) t ⟨h0, h1, h2, h3, h4, h5⟩
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → cfg0.idle 5 (grid0.coords t) = true :=
  fun t h0 h1 h2 h3 h4 h5 => (by decide +kernel : ∀ t : Fin cfg0.N, conds0_A (grid0.coords t) → cfg0.idle 5 (grid0.coords t) = true) t ⟨h0, h1, h2, h3, h4, h5⟩
/-- At the points of case A the pipeline does not write output 5's block back. -/
theorem noFlush0_5_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → (cfg0.win 5).flush t = false :=
  fun t h0 h1 h2 h3 h4 h5 => (by decide +kernel : ∀ t : Fin cfg0.N, conds0_A (grid0.coords t) → (cfg0.win 5).flush t = false) t ⟨h0, h1, h2, h3, h4, h5⟩
/-- At the points of case B the printed configuration (`Cfg.idle`) calls output 5 idle: the case stores nothing into it. -/
theorem idleAt0_5_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → cfg0.idle 5 (grid0.coords t) = true :=
  fun t h0 h1 h2 h3 h4 h5 => (by decide +kernel : ∀ t : Fin cfg0.N, conds0_B (grid0.coords t) → cfg0.idle 5 (grid0.coords t) = true) t ⟨h0, h1, h2, h3, h4, h5⟩
/-- At the points of case B the pipeline does not write output 5's block back. -/
theorem noFlush0_5_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → (cfg0.win 5).flush t = false :=
  fun t h0 h1 h2 h3 h4 h5 => (by decide +kernel : ∀ t : Fin cfg0.N, conds0_B (grid0.coords t) → (cfg0.win 5).flush t = false) t ⟨h0, h1, h2, h3, h4, h5⟩
/-- At the points of case C the printed configuration (`Cfg.idle`) calls output 5 idle: the case stores nothing into it. -/
theorem idleAt0_5_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → cfg0.idle 5 (grid0.coords t) = true :=
  fun t h0 h1 h2 h3 h4 h5 => (by decide +kernel : ∀ t : Fin cfg0.N, conds0_C (grid0.coords t) → cfg0.idle 5 (grid0.coords t) = true) t ⟨h0, h1, h2, h3, h4, h5⟩
/-- At the points of case C the pipeline does not write output 5's block back. -/
theorem noFlush0_5_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → (cfg0.win 5).flush t = false :=
  fun t h0 h1 h2 h3 h4 h5 => (by decide +kernel : ∀ t : Fin cfg0.N, conds0_C (grid0.coords t) → (cfg0.win 5).flush t = false) t ⟨h0, h1, h2, h3, h4, h5⟩
/-- At the points of case D the printed configuration (`Cfg.idle`) calls output 5 live: the case stores into it. -/
theorem liveAt0_5_D : ∀ t : Fin cfg0.N, ¬cond0_0 (grid0.coords t) → ¬cond0_1 (grid0.coords t) → ¬cond0_2 (grid0.coords t) → cond0_3 (grid0.coords t) → cond0_4 (grid0.coords t) → ¬cond0_5 (grid0.coords t) → cfg0.idle 5 (grid0.coords t) = false :=
  fun t h0 h1 h2 h3 h4 h5 => (by decide +kernel : ∀ t : Fin cfg0.N, conds0_D (grid0.coords t) → cfg0.idle 5 (grid0.coords t) = false) t ⟨h0, h1, h2, h3, h4, h5⟩

/-! ## The kernel body on any staging memrefs: a subtype the run finds -/

/-- One staging buffer of output window 3, through which its contents are stated (`View.read_writes_of_cover`: the
    choice does not matter). -/
abbrev VO0_3 : View sig .tc .vmem S256x1536 .bf16 := (Memref.whole cc0_stg3_0 : Memref sig .tc .vmem S256x1536 .bf16).view
/-- One staging buffer of output window 4, through which its contents are stated (`View.read_writes_of_cover`: the
    choice does not matter). -/
abbrev VO0_4 : View sig .tc .vmem S256x1536 .i8 := (Memref.whole cc0_stg4_0 : Memref sig .tc .vmem S256x1536 .i8).view
/-- One staging buffer of output window 5, through which its contents are stated (`View.read_writes_of_cover`: the
    choice does not matter). -/
abbrev VO0_5 : View sig .tc .vmem S6x1408 .f32 := (Memref.whole cc0_stg5_0 : Memref sig .tc .vmem S6x1408 .f32).view
/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x1408 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x1536 .bf16 := Memref.whole cc0_scratch0
abbrev scM0_1 : Memref sig .tc .vmem S256x1536 .bf16 := Memref.whole cc0_scratch1
abbrev scM0_2 : Memref sig .tc .vmem S256x1536 .bf16 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S66x128 .f32 := Memref.whole cc0_scratch5
/-- The scratch `arg7` the kernel carries between points, as a view: what it holds is stated through it. -/
abbrev VS0_0 : View sig .tc .vmem S1536x1536 .bf16 := scM0_0.view
/-- The scratch `arg8` the kernel carries between points, as a view: what it holds is stated through it. -/
abbrev VS0_1 : View sig .tc .vmem S256x1536 .bf16 := scM0_1.view
/-- The scratch `arg9` the kernel carries between points, as a view: what it holds is stated through it. -/
abbrev VS0_2 : View sig .tc .vmem S256x1536 .bf16 := scM0_2.view
/-- The scratch `arg10` the kernel carries between points, as a view: what it holds is stated through it. -/
abbrev VS0_3 : View sig .tc .vmem S256x128 .f32 := scM0_3.view
/-- The scratch `arg11` the kernel carries between points, as a view: what it holds is stated through it. -/
abbrev VS0_4 : View sig .tc .vmem S256x128 .f32 := scM0_4.view
/-- The scratch `arg12` the kernel carries between points, as a view: what it holds is stated through it. -/
abbrev VS0_5 : View sig .tc .vmem S66x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Val

end
-- ==== Proof.Val.Math.lean ====
/- The arithmetic of the two programs over the extended reals: the rotation by partial sums and the rotation by the
   signed sum agree in every row's scale and in every code. -/
module

public import Idealize.ShloMosaic.PureOps.Ideal
public import Idealize.ShloMosaic.PureOps.Ideal.Laws

@[expose] public section

noncomputable section

namespace Cert.Val

open Idealize.ShloMosaic

/-- The kernel's rotation of twelve heads by shared partial sums, over any addition and subtraction. -/
def rot {α : Type} (ad sb : α → α → α) (v : Fin 12 → α) (g : Fin 12) : α :=
  let w12 := ad (v 6) (v 11)
  let w13 := sb (v 3) (v 4)
  let w14 := ad (v 0) (v 9)
  let w15 := sb (v 7) (v 8)
  let w16 := sb (v 1) (v 10)
  let w17 := sb (v 6) (v 11)
  let w18 := ad (v 3) (v 4)
  let w19 := sb (v 0) (v 9)
  let w20 := ad (v 1) (v 10)
  let w21 := ad (v 2) (v 5)
  let w22 := sb (v 2) (v 5)
  let w23 := ad (v 7) (v 8)
  let w24 := sb w16 w21
  let w25 := ad w19 w23
  let w26 := sb w19 w21
  let w27 := sb w14 w13
  let w28 := sb w26 w23
  let w29 := sb w27 w15
  let w30 := sb w12 w20
  let w31 := ad w14 w15
  let w32 := ad w23 w24
  let w33 := sb w13 w15
  let w34 := sb w13 w17
  let w35 := sb w22 w30
  let w36 := sb w22 w20
  let w37 := ad w17 w31
  let w38 := sb w18 w22
  let w39 := sb w25 w16
  let w40 := ad w16 w21
  let w41 := ad w18 w36
  let w42 := ad w12 w18
  let w43 := ad w17 w33
  let w44 := ad w19 w40
  let w45 := ad w20 w42
  let w46 := ad w14 w34
  let w47 := sb w12 w38
  ![sb w28 w45, ad w32 w46, ad w29 w35, sb w46 w32, ad w28 w45, sb w44 w43, ad w43 w44, ad w37 w41, sb w39 w47, sb w29 w35, sb w37 w41, ad w39 w47] g

/-- The signs of the rotation's matrix: `true` where the entry is `1`, `false` where it is `-1`. -/
def pos : Fin 12 → Fin 12 → Bool :=
  ![![true, true, true, true, true, true, true, true, true, true, true, true],
    ![false, true, true, false, true, true, true, false, false, false, true, false],
    ![false, false, true, true, false, true, true, true, false, false, false, true],
    ![false, true, false, true, true, false, true, true, true, false, false, false],
    ![false, false, true, false, true, true, false, true, true, true, false, false],
    ![false, false, false, true, false, true, true, false, true, true, true, false],
    ![false, false, false, false, true, false, true, true, false, true, true, true],
    ![false, true, false, false, false, true, false, true, true, false, true, true],
    ![false, true, true, false, false, false, true, false, true, true, false, true],
    ![false, true, true, true, false, false, false, true, false, true, true, false],
    ![false, false, true, true, true, false, false, false, true, false, true, true],
    ![false, true, false, true, true, true, false, false, false, true, false, true]]

/-- The rotation's matrix entry. -/
def had (h g : Fin 12) : EReal := if pos h g then 1 else -1

/-- The rotation as one signed sum. -/
def rotSum (v : Fin 12 → EReal) (g : Fin 12) : EReal := ∑ h, had h g * v h

/-- The kernel's rotation over the extended reals. -/
abbrev rotE (v : Fin 12 → EReal) (g : Fin 12) : EReal := rot (· + ·) (· - ·) v g

/-- An extended real that is no real. -/
def Inf (x : EReal) : Prop := x = ⊤ ∨ x = ⊥

theorem inf_neg (x : EReal) : Inf (-x) ↔ Inf x := by
  unfold Inf; rw [EReal.neg_eq_top_iff, EReal.neg_eq_bot_iff]; exact or_comm

theorem inf_add (x y : EReal) : Inf (x + y) ↔ Inf x ∨ Inf y := by
  unfold Inf
  induction x <;> induction y <;> simp [← EReal.coe_add]

theorem inf_sub (x y : EReal) : Inf (x - y) ↔ Inf x ∨ Inf y := by
  rw [sub_eq_add_neg, inf_add, inf_neg]

theorem inf_had (h g : Fin 12) (x : EReal) : Inf (had h g * x) ↔ Inf x := by
  unfold had; split
  · rw [one_mul]
  · rw [neg_one_mul, inf_neg]

theorem inf_sum {ι : Type} (s : Finset ι) (f : ι → EReal) : Inf (∑ i ∈ s, f i) ↔ ∃ i ∈ s, Inf (f i) := by
  classical
  induction s using Finset.induction_on with
  | empty => simp [Inf]
  | insert a s ha ih => rw [Finset.sum_insert ha, inf_add, ih]; simp

theorem inf_rotSum (v : Fin 12 → EReal) (g : Fin 12) : Inf (rotSum v g) ↔ ∃ h, Inf (v h) := by
  unfold rotSum; rw [inf_sum]; simp [inf_had]

theorem not_inf (x : EReal) : ¬ Inf x ↔ ∃ r : ℝ, x = r := by
  unfold Inf; induction x <;> simp

/-- The rotation respects any relation its additions and subtractions respect. -/
theorem rot_rel {α β : Type} {ad sb : α → α → α} {ad' sb' : β → β → β} (R : α → β → Prop)
    (ha : ∀ a a' b b', R a a' → R b b' → R (ad a b) (ad' a' b'))
    (hs : ∀ a a' b b', R a a' → R b b' → R (sb a b) (sb' a' b')) {v : Fin 12 → α} {v' : Fin 12 → β}
    (hv : ∀ h, R (v h) (v' h)) (g : Fin 12) : R (rot ad sb v g) (rot ad' sb' v' g) := by
  fin_cases g <;> simp only [rot] <;> (repeat' first | exact hv _ | apply ha | apply hs)

/-- Every output of the rotation reads every head. -/
theorem rot_reads (h g : Fin 12) : rot (· || ·) (· || ·) (fun k => decide (k = h)) g = true := by
  revert h g; decide

theorem inf_rotE (v : Fin 12 → EReal) (h g : Fin 12) (hh : Inf (v h)) : Inf (rotE v g) := by
  refine rot_rel (ad' := (· || ·)) (sb' := (· || ·)) (fun x (b : Bool) => b = true → Inf x) ?_ ?_
    (v' := fun k => decide (k = h)) ?_ g (rot_reads h g)
  · intro a a' b b' h1 h2 hb
    rcases (Bool.or_eq_true _ _).mp hb with hb | hb
    · exact (inf_add _ _).2 (.inl (h1 hb))
    · exact (inf_add _ _).2 (.inr (h2 hb))
  · intro a a' b b' h1 h2 hb
    rcases (Bool.or_eq_true _ _).mp hb with hb | hb
    · exact (inf_sub _ _).2 (.inl (h1 hb))
    · exact (inf_sub _ _).2 (.inr (h2 hb))
  · intro k hk
    obtain rfl := of_decide_eq_true hk
    exact hh

/-- A real matrix entry. -/
def hadR (h g : Fin 12) : ℝ := if pos h g then 1 else -1

theorem had_coe (h g : Fin 12) : had h g = (hadR h g : ℝ) := by
  unfold had hadR; split <;> simp

set_option maxHeartbeats 4000000 in
theorem rot_real (r : Fin 12 → ℝ) (g : Fin 12) : rot (· + ·) (· - ·) r g = ∑ h, hadR h g * r h := by
  fin_cases g <;> simp [rot, Fin.sum_univ_succ, hadR, pos] <;> ring

theorem rotE_coe (r : Fin 12 → ℝ) (g : Fin 12) :
    rotE (fun h => (r h : EReal)) g = ((rot (· + ·) (· - ·) r g : ℝ) : EReal) := by
  refine rot_rel (fun (x : EReal) (y : ℝ) => x = (y : EReal)) ?_ ?_ (fun _ => rfl) g
  · rintro _ a _ b rfl rfl; exact (EReal.coe_add a b).symm
  · rintro _ a _ b rfl rfl; exact (EReal.coe_sub a b).symm

/-- Over twelve reals the two rotations agree. -/
theorem rotE_eq_rotSum (v : Fin 12 → EReal) (hv : ¬ ∃ h, Inf (v h)) (g : Fin 12) : rotE v g = rotSum v g := by
  have : ∀ h, ∃ r : ℝ, v h = r := fun h => (not_inf _).1 fun hh => hv ⟨h, hh⟩
  choose r hr using this
  obtain rfl : v = fun h => (r h : EReal) := funext hr
  rw [rotE_coe, rot_real, rotSum]
  simp only [had_coe, ← EReal.coe_mul]
  exact map_sum (⟨⟨((↑) : ℝ → EReal), EReal.coe_zero⟩, EReal.coe_add⟩ : ℝ →+ EReal) _ _

end Cert.Val
end
-- ==== Proof.Val.Spec.lean ====
/- The values the kernel's stores carry, as functions of the vectors read, and what they are at each index. -/
module

public import proofs.«01_k».proof.Proof.Val.Math
public import proofs.«01_k».proof.Proof.Val.Runs
public import Idealize.ShloMosaic.Lib.MatmulPlain
public import Idealize.ShloMosaic.Lib.Pipeline.Value
public import Idealize.ShloMosaic.PureOps.Ideal.Laws
public import Idealize.ShloMosaic.Lib.BitcastFour

@[expose] public section

noncomputable section

namespace Cert.KernelIdeal.Val

open Cert.KernelIdeal.Gen Cert.Val
open Idealize.ShloMosaic Idealize.ShloMosaic.ValueIdx

/-! ## One number -/

/-- The rotation's factor. -/
def c0 : EReal := Ideal.ofBits .f32 0x3E93CD3A#32

theorem bits_zero : Ideal.ofBits .f32 0x00000000#32 = (0 : EReal) := by
  simp [Ideal.ofBits, Ideal.ieee]
theorem bits_one : Ideal.ofBits .f32 0x3F800000#32 = (1 : EReal) := by
  simp [Ideal.ofBits, Ideal.ieee]
  rw [← EReal.coe_mul]
  norm_num
theorem bits_seven : Ideal.ofBits .f32 0x40E00000#32 = (7 : EReal) := by
  simp [Ideal.ofBits, Ideal.ieee]
  rw [← EReal.coe_mul]
  norm_num
  rfl
theorem bits_neg_seven : Ideal.ofBits .f32 0xC0E00000#32 = (-7 : EReal) := by
  simp [Ideal.ofBits, Ideal.ieee]
  rw [← EReal.coe_mul]
  norm_num
  rfl
theorem bits_bot : Ideal.ofBits .f32 0xFF800000#32 = (⊥ : EReal) := by
  simp [Ideal.ofBits, Ideal.ieee]

/-- One rotated and scaled value of a row. -/
def zrow (X : Fin 12 → Fin 128 → EReal) (g : Fin 12) (l : Fin 128) : EReal := rotE (fun h => X h l) g * c0
/-- A row's largest magnitude. -/
def amaxRow (Z : Fin 12 → Fin 128 → EReal) : EReal :=
  (Finset.univ : Finset (Fin 128)).sup fun l => (Finset.univ : Finset (Fin 12)).sup fun g => max (Z g l) (-Z g l)
/-- The scale of a row whose largest magnitude is `a`. -/
def scaleOf (a : EReal) : EReal := Scalar.select (Ideal.cmp .oeq a 0) (1 : EReal) (Ideal.div a 7)
/-- The code of a value at a scale, as a number. -/
def codeE (z s : EReal) : EReal := min 7 (max (-7) (Ideal.liftRound Ideal.roundHalfEven (Ideal.div z s)))
/-- The code of a value at a scale, as a signed byte. -/
def codeB (z s : EReal) : BitVec 8 := Ideal.fptosi 8 (codeE z s)
/-- A row's scale. -/
def rowScale (X : Fin 12 → Fin 128 → EReal) : EReal := scaleOf (amaxRow (zrow X))
/-- A row's codes. -/
def rowCode (X : Fin 12 → Fin 128 → EReal) (g : Fin 12) (l : Fin 128) : BitVec 8 := codeB (zrow X g l) (rowScale X)

/-! ## One chunk of 32 rows -/

section Vecs
variable {F : FTy → Type} [FloatOps F]

/-- A head's chunk at the working format. -/
def hdV (v : Vec F S32x128 .bf16) : FVec F S32x128 .f32 :=
  extf .f32 (shapeCast S32x128 v shapeCasts_S32x128_S32x128) bitsLt_bf16_f32
/-- The rotated and scaled chunk. -/
def zV (v : Fin 12 → Vec F S32x128 .bf16) (g : Fin 12) : FVec F S32x128 .f32 :=
  mulf (rot addf subf (fun h => hdV (v h)) g) (broadcast S32x128 (Scalar.ofBits .f32 0x3E93CD3A#32))
/-- The largest magnitude over the heads. -/
def mxV (v : Fin 12 → Vec F S32x128 .bf16) : FVec F S32x128 .f32 :=
  maximumf (maximumf (maximumf (maximumf (maximumf (maximumf (maximumf (maximumf (maximumf (maximumf (maximumf
    (absf (zV v 0)) (absf (zV v 1))) (absf (zV v 2))) (absf (zV v 3))) (absf (zV v 4))) (absf (zV v 5))) (absf (zV v 6)))
    (absf (zV v 7))) (absf (zV v 8))) (absf (zV v 9))) (absf (zV v 10))) (absf (zV v 11))
/-- The rows' largest magnitudes. -/
def amV (v : Fin 12 → Vec F S32x128 .bf16) : FVec F S32x1 .f32 :=
  shapeCast S32x1 (multiReduction .maximumf [1] S32 (mxV v) 0xFF800000#32 reduces_S32x128_S32 (.inl rfl) rfl) shapeCasts_S32_S32x1
/-- The rows' scales. -/
def scV (v : Fin 12 → Vec F S32x128 .bf16) : FVec F S32x1 .f32 :=
  shapeCast S32x1 (select (cmpf .oeq (amV v) (broadcast S32x1 (Scalar.ofBits .f32 0x00000000#32)))
    (broadcast S32x1 (Scalar.ofBits .f32 0x3F800000#32)) (divf (amV v) (broadcast S32x1 (Scalar.ofBits .f32 0x40E00000#32))))
    shapeCasts_S32x1_S32x1
/-- The rows' scales along the lanes. -/
def bcV (v : Fin 12 → Vec F S32x128 .bf16) : FVec F S32x128 .f32 := broadcastTo S32x128 (scV v) broadcasts_S32x1_S32x128
/-- The stored scales. -/
def scaleV (v : Fin 12 → Vec F S32x128 .bf16) : FVec F S32x128 .f32 := shapeCast S32x128 (bcV v) shapeCasts_S32x128_S32x128
/-- The stored codes of one head. -/
def codeV (v : Fin 12 → Vec F S32x128 .bf16) (g : Fin 12) : IVec S32x128 8 :=
  fptosi 8 (minimumf (broadcast S32x128 (Scalar.ofBits .f32 0x40E00000#32))
    (maximumf (broadcast S32x128 (Scalar.ofBits .f32 0xC0E00000#32)) (roundeven (divf (zV v g) (bcV v)))))
/-- The codes of one head as the multiply's left operand. -/
def lhsV (v : Fin 12 → Vec F S32x128 .bf16) (g : Fin 12) : FVec F S32x128 .bf16 :=
  shapeCast S32x128 (sitofp .bf16 (codeV v g)) shapeCasts_S32x128_S32x128

/-- Half a column block of the product, scaled. -/
def outV (o : Fin 2 → ℕ) (h : S256x256.Slices o S256x128) (lhs : Vec F S256x1536 .bf16) (sc : Vec F S256x128 .f32) (w : Vec F S256x1536 .bf16) :
    FVec F S256x128 .bf16 :=
  truncf .bf16 (mulf (extractStridedSlice S256x128 o
    (matmul dot_S256x1536_S256x1536_S256x256_1_1_0_0_n_n none lhs w (constant S256x256 .f32 0x00000000#32)) h) sc) bitsLt_bf16_f32

end Vecs

/-! ## The chunk at an index -/

theorem hdV_apply (v : Vec Ideal S32x128 .bf16) (y : S32x128.Idx) : hdV v y = v y := by
  unfold hdV
  rw [shapeCast_self]
  rfl

theorem zV_apply (v : Fin 12 → Vec Ideal S32x128 .bf16) (g : Fin 12) (y : S32x128.Idx) :
    zV v g y = rotE (fun h => v h y) g * c0 := by
  have h : (rot addf subf (fun h => hdV (v h)) g : FVec Ideal S32x128 .f32) y = rotE (fun h => v h y) g :=
    rot_rel (fun (a : FVec Ideal S32x128 .f32) (b : EReal) => a y = b)
      (fun {a a' b b'} h h' => by rw [← h, ← h']; rfl) (fun {a a' b b'} h h' => by rw [← h, ← h']; rfl) (fun k => hdV_apply (v k) y) g
  rw [← h]
  rfl

/-- A chunk's row as heads by lanes. -/
def vrow (v : Fin 12 → Vec Ideal S32x128 .bf16) (a : Fin 32) : Fin 12 → Fin 128 → EReal := fun h l => v h (ix2 a l)

theorem zV_ix (v : Fin 12 → Vec Ideal S32x128 .bf16) (g : Fin 12) (a : Fin 32) (l : Fin 128) :
    zV v g (ix2 a l) = zrow (vrow v a) g l := zV_apply v g _

theorem sup_fin12 (f : Fin 12 → EReal) : (Finset.univ : Finset (Fin 12)).sup f =
    max (max (max (max (max (max (max (max (max (max (max (f 0) (f 1)) (f 2)) (f 3)) (f 4)) (f 5)) (f 6)) (f 7)) (f 8)) (f 9)) (f 10)) (f 11) := by
  apply le_antisymm
  · refine Finset.sup_le fun i _ => ?_
    fin_cases i <;> simp [le_max_iff]
  · simp only [max_le_iff]
    exact ⟨⟨⟨⟨⟨⟨⟨⟨⟨⟨⟨Finset.le_sup (Finset.mem_univ _), Finset.le_sup (Finset.mem_univ _)⟩, Finset.le_sup (Finset.mem_univ _)⟩, Finset.le_sup (Finset.mem_univ _)⟩, Finset.le_sup (Finset.mem_univ _)⟩, Finset.le_sup (Finset.mem_univ _)⟩, Finset.le_sup (Finset.mem_univ _)⟩, Finset.le_sup (Finset.mem_univ _)⟩, Finset.le_sup (Finset.mem_univ _)⟩, Finset.le_sup (Finset.mem_univ _)⟩, Finset.le_sup (Finset.mem_univ _)⟩, Finset.le_sup (Finset.mem_univ _)⟩

theorem mxV_ix (v : Fin 12 → Vec Ideal S32x128 .bf16) (a : Fin 32) (l : Fin 128) :
    mxV v (ix2 a l) = (Finset.univ : Finset (Fin 12)).sup fun g => max (zrow (vrow v a) g l) (-zrow (vrow v a) g l) := by
  rw [sup_fin12]
  simp only [← zV_ix]
  rfl

theorem amV_ix (v : Fin 12 → Vec Ideal S32x128 .bf16) (a : Fin 32) (b : Fin 1) : amV v (ix2 a b) = amaxRow (zrow (vrow v a)) := by
  unfold amV
  rw [shapeCast_apply _ _ _ (ix1 a) (by rw [Shape.rowMajor_val_one, Shape.rowMajor_val_two]; show a.val = a.val * 1 + b.val; omega)]
  refine (Ideal.multiReduction_maximumf_single (mxV v) 0xFF800000#32 reduces_S32x128_S32 (.inl rfl) rfl (ix1 a)).trans ?_
  unfold amaxRow Finset.sup
  have hb : (FloatOps.ofBits .f32 0xFF800000#32 : Ideal .f32) = (⊥ : EReal) := bits_bot
  rw [hb]
  refine congrArg (fun f => Finset.fold max (⊥ : EReal) f (Finset.univ : Finset (Fin 128))) (funext fun l => ?_)
  show mxV v _ = _
  have e : reduces_S32x128_S32.lift (ix1 a) l = ix2 a l := by
    funext c
    match c with
    | ⟨0, _⟩ => rfl
    | ⟨1, _⟩ => rfl
  rw [e]
  exact mxV_ix v a l

theorem scV_ix (v : Fin 12 → Vec Ideal S32x128 .bf16) (a : Fin 32) (b : Fin 1) : scV v (ix2 a b) = rowScale (vrow v a) := by
  unfold scV
  rw [shapeCast_self]
  show Scalar.select (Ideal.cmp .oeq (amV v (ix2 a b)) (Ideal.ofBits .f32 0x00000000#32)) (Ideal.ofBits .f32 0x3F800000#32)
    (Ideal.div (amV v (ix2 a b)) (Ideal.ofBits .f32 0x40E00000#32)) = _
  rw [bits_zero, bits_one, bits_seven, amV_ix]
  rfl

theorem bcV_ix (v : Fin 12 → Vec Ideal S32x128 .bf16) (a : Fin 32) (l : Fin 128) : bcV v (ix2 a l) = rowScale (vrow v a) := by
  unfold bcV
  rw [broadcastTo_apply _ _ _ (ix2 a (0 : Fin 1)) (fun c => by
    match c with
    | ⟨0, _⟩ => rfl
    | ⟨1, _⟩ => rfl)]
  exact scV_ix v a 0

theorem scaleV_ix (v : Fin 12 → Vec Ideal S32x128 .bf16) (a : Fin 32) (l : Fin 128) : scaleV v (ix2 a l) = rowScale (vrow v a) := by
  unfold scaleV
  rw [shapeCast_self]
  exact bcV_ix v a l

theorem codeV_ix (v : Fin 12 → Vec Ideal S32x128 .bf16) (g : Fin 12) (a : Fin 32) (l : Fin 128) :
    codeV v g (ix2 a l) = rowCode (vrow v a) g l := by
  show Ideal.fptosi 8 (min (Ideal.ofBits .f32 0x40E00000#32) (max (Ideal.ofBits .f32 0xC0E00000#32)
    (Ideal.liftRound Ideal.roundHalfEven (Ideal.div (zV v g (ix2 a l)) (bcV v (ix2 a l)))))) = _
  rw [bits_seven, bits_neg_seven, zV_ix, bcV_ix]
  rfl

/-- A signed integer as an extended real. -/
def intE {w : ℕ} (b : BitVec w) : EReal := ((b.toInt : ℝ) : EReal)

theorem lhsV_ix (v : Fin 12 → Vec Ideal S32x128 .bf16) (g : Fin 12) (a : Fin 32) (l : Fin 128) :
    lhsV v g (ix2 a l) = intE (rowCode (vrow v a) g l) := by
  unfold lhsV
  rw [shapeCast_self, ← codeV_ix]
  rfl

theorem outV_ix (o : Fin 2 → ℕ) (h : S256x256.Slices o S256x128) (lhs : Vec Ideal S256x1536 .bf16) (sc : Vec Ideal S256x128 .f32)
    (w : Vec Ideal S256x1536 .bf16) (a : Fin 256) (l : Fin 128) (c : Fin 256) (h0 : o 0 = 0) (hc : c.val = o 1 + l.val) :
    outV o h lhs sc w (ix2 a l) = (∑ k : Fin 1536, lhs (ix2 a k) * w (ix2 c k)) * sc (ix2 a l) := by
  have e : extractStridedSlice S256x128 o (matmul (F := Ideal) (φ₁ := .bf16) (φ₂ := .bf16) dot_S256x1536_S256x1536_S256x256_1_1_0_0_n_n none lhs w
      (constant S256x256 .f32 0x00000000#32)) h (ix2 a l) = ∑ k : Fin 1536, lhs (ix2 a k) * w (ix2 c k) := by
    rw [extractStridedSlice_apply _ _ _ _ (ix2 a c) (fun d => by
      match d with
      | ⟨0, _⟩ => show a.val = o 0 + a.val; omega
      | ⟨1, _⟩ => exact hc)]
    refine (Ideal.matmul_transposedRhs_apply none lhs w _ a c).trans ?_
    show Ideal.ofBits .f32 0x00000000#32 + _ = _
    rw [bits_zero, zero_add]
  rw [← e]
  rfl

end Cert.KernelIdeal.Val
-- ==== Proof.Val.Wgt.lean ====
/- The unpacked and scaled weights, as functions of the vectors read, and what they are at each index. -/
module

public import proofs.«01_k».proof.Proof.Val.Spec

@[expose] public section

noncomputable section

namespace Cert.KernelIdeal.Val

open Cert.KernelIdeal.Gen Cert.Val
open Idealize.ShloMosaic Idealize.ShloMosaic.ValueIdx

section Vecs
variable {F : FTy → Type} [FloatOps F]

/-- Bytes holding sixteen times a code, scaled by the column block's scale. -/
def wScV (o : Fin 2 → ℕ) (h : S256x12.Slices o S256x1) (ws : Vec F S256x12 .f32) (b : IVec S64x128 32) : FVec F S256x128 .bf16 :=
  shapeCast S256x128 (mulf (mulf (sitofp .bf16 (bitcast S256x128 8 b bitcasts_S64x128_w32_S256x128_w8))
    (broadcast S256x128 (Scalar.ofBits .bf16 0x3D80#16)))
    (broadcastTo S256x128 (extractStridedSlice S256x1 o (truncf .bf16 ws bitsLt_bf16_f32) h) broadcasts_S256x1_S256x128))
    shapeCasts_S256x128_S256x128
/-- The low codes of a block of bytes. -/
def wLoV (o : Fin 2 → ℕ) (h : S256x12.Slices o S256x1) (ws : Vec F S256x12 .f32) (x : Vec F S256x128 .i8) : FVec F S256x128 .bf16 :=
  wScV o h ws (andi (shli (bitcast S64x128 32 x bitcasts_S256x128_w8_S64x128_w32) (broadcast S64x128 4#32)) (broadcast S64x128 4042322160#32))
/-- The high codes of a block of bytes. -/
def wHiV (o : Fin 2 → ℕ) (h : S256x12.Slices o S256x1) (ws : Vec F S256x12 .f32) (x : Vec F S256x128 .i8) : FVec F S256x128 .bf16 :=
  wScV o h ws (andi (bitcast S64x128 32 x bitcasts_S256x128_w8_S64x128_w32) (broadcast S64x128 4042322160#32))

end Vecs

/-- A byte's low code. -/
def nibLo (b : BitVec 8) : ℤ := (b.extractLsb' 0 4).toInt
/-- A byte's high code. -/
def nibHi (b : BitVec 8) : ℤ := (b.extractLsb' 4 4).toInt

set_option maxRecDepth 8192 in
theorem lo_toInt : ∀ b : BitVec 8, (b <<< 4).toInt = 16 * nibLo b := by unfold nibLo; decide
set_option maxRecDepth 8192 in
theorem hi_toInt : ∀ b : BitVec 8, (b &&& 0xF0#8).toInt = 16 * nibHi b := by unfold nibHi; decide

theorem mask_bit (i : ℕ) (hi : i < 32) : (4042322160#32 : BitVec 32).getLsbD i = decide (4 ≤ i % 8) := by
  interval_cases i <;> rfl

theorem byte_ix (b : IVec S64x128 32) (p : Fin 256) (l : Fin 128) (q : ℕ) (hq : q < 8) :
    (bitcast S256x128 8 b bitcasts_S64x128_w32_S256x128_w8 (ix2 p l)).getLsbD q
      = (b (ix2 ⟨p.val / 4, by omega⟩ l)).getLsbD (8 * (p.val % 4) + q) := by
  rw [bitcast_getLsbD b _ (ix2 p l) q hq (by decide)]
  have hr : S256x128.row (ix2 p l) = p.val := rfl
  have e1 : (S256x128.row (ix2 p l) * 8 + q) % 32 = 8 * (p.val % 4) + q := by rw [hr]; omega
  rw [e1]
  congr 2
  funext c
  match c with
  | ⟨0, _⟩ =>
    refine Fin.ext ((Shape.Bitcasts.srcIdx_row _ _ _ _ ⟨0, Nat.zero_lt_two⟩ rfl).trans ?_)
    show (S256x128.row (ix2 p l) * 8 + q) / 32 = p.val / 4
    rw [hr]; omega
  | ⟨1, _⟩ => exact Fin.ext (Shape.Bitcasts.srcIdx_other _ _ _ _ ⟨1, Nat.one_lt_two⟩ (by show ¬ 1 + 2 = 2; omega))

theorem word_ix (x : IVec S256x128 8) (p : Fin 256) (l : Fin 128) (q : ℕ) (hq : q < 8) :
    (bitcast S64x128 32 x bitcasts_S256x128_w8_S64x128_w32 (ix2 (⟨p.val / 4, by omega⟩ : Fin 64) l)).getLsbD (8 * (p.val % 4) + q)
      = (x (ix2 p l)).getLsbD q := by
  rw [bitcast_8_32_getLsbD_ix2 x _ _ l _ (by omega) p (by show p.val = 4 * (p.val / 4) + (8 * (p.val % 4) + q) / 8; omega)]
  congr 1
  omega

theorem lo_byte (x : IVec S256x128 8) (p : Fin 256) (l : Fin 128) :
    bitcast S256x128 8 (andi (shli (bitcast S64x128 32 x bitcasts_S256x128_w8_S64x128_w32) (broadcast S64x128 4#32))
      (broadcast S64x128 4042322160#32)) bitcasts_S64x128_w32_S256x128_w8 (ix2 p l) = x (ix2 p l) <<< 4 := by
  apply BitVec.eq_of_getLsbD_eq
  intro q hq
  rw [byte_ix _ p l q hq]
  show (IntOp.andi (IntOp.shli .vector (bitcast S64x128 32 x bitcasts_S256x128_w8_S64x128_w32 (ix2 (⟨p.val / 4, by omega⟩ : Fin 64) l)) 4#32)
    4042322160#32).getLsbD _ = _
  simp only [IntOp.andi, IntOp.shli]
  rw [if_pos (by decide), BitVec.getLsbD_and, mask_bit _ (by omega), BitVec.shiftLeft_eq', BitVec.getLsbD_shiftLeft]
  by_cases h4 : q < 4
  · rw [BitVec.getLsbD_shiftLeft]
    have h8 : ¬ 4 ≤ (8 * (p.val % 4) + q) % 8 := by omega
    rw [decide_eq_false h8, Bool.and_false, decide_eq_true h4]
    simp
  · have e : 8 * (p.val % 4) + q - 4 = 8 * (p.val % 4) + (q - 4) := by omega
    have := word_ix x p l (q - 4) (by omega)
    have h8 : 4 ≤ (8 * (p.val % 4) + q) % 8 := by omega
    have hs : (4#32 : BitVec 32).toNat = 4 := rfl
    rw [BitVec.getLsbD_shiftLeft, ← this, decide_eq_true h8, Bool.and_true, hs, e, decide_eq_false h4,
      decide_eq_false (show ¬ 8 * (p.val % 4) + q < 4 by omega), decide_eq_true (show 8 * (p.val % 4) + q < 32 by omega), decide_eq_true hq]

theorem hi_byte (x : IVec S256x128 8) (p : Fin 256) (l : Fin 128) :
    bitcast S256x128 8 (andi (bitcast S64x128 32 x bitcasts_S256x128_w8_S64x128_w32)
      (broadcast S64x128 4042322160#32)) bitcasts_S64x128_w32_S256x128_w8 (ix2 p l) = x (ix2 p l) &&& 0xF0#8 := by
  apply BitVec.eq_of_getLsbD_eq
  intro q hq
  rw [byte_ix _ p l q hq]
  show (IntOp.andi (bitcast S64x128 32 x bitcasts_S256x128_w8_S64x128_w32 (ix2 (⟨p.val / 4, by omega⟩ : Fin 64) l))
    4042322160#32).getLsbD _ = _
  simp only [IntOp.andi]
  rw [BitVec.getLsbD_and, mask_bit _ (by omega), BitVec.getLsbD_and, word_ix x p l q hq]
  have : (0xF0#8 : BitVec 8).getLsbD q = decide (4 ≤ q) := by
    have : q < 8 := hq
    interval_cases q <;> rfl
  rw [this, show (8 * (p.val % 4) + q) % 8 = q by omega]

theorem bits_sixteenth : Ideal.ofBits .bf16 0x3D80#16 = ((1 / 16 : ℝ) : EReal) := by
  simp [Ideal.ofBits, Ideal.ieee]
  rw [← EReal.coe_mul]
  norm_num

theorem sixteenth (n : ℤ) : ((((16 * n : ℤ)) : ℝ) : EReal) * ((1 / 16 : ℝ) : EReal) = ((n : ℝ) : EReal) := by
  rw [← EReal.coe_mul]
  have e : ((16 * n : ℤ) : ℝ) * (1 / 16) = (n : ℝ) := by push_cast; ring
  rw [e]

theorem wScV_ix (o : Fin 2 → ℕ) (h : S256x12.Slices o S256x1) (ws : Vec Ideal S256x12 .f32) (b : IVec S64x128 32) (p : Fin 256) (l : Fin 128)
    (n : ℤ) (hn : (bitcast S256x128 8 b bitcasts_S64x128_w32_S256x128_w8 (ix2 p l)).toInt = 16 * n) (g : Fin 12) (h0 : o 0 = 0) (h1 : o 1 = g.val) :
    wScV (F := Ideal) o h ws b (ix2 p l) = ((n : ℝ) : EReal) * ws (ix2 p g) := by
  unfold wScV
  rw [shapeCast_self]
  show ((((bitcast S256x128 8 b bitcasts_S64x128_w32_S256x128_w8 (ix2 p l)).toInt : ℝ) : EReal) * Ideal.ofBits .bf16 0x3D80#16)
    * broadcastTo S256x128 (extractStridedSlice S256x1 o (truncf (F := Ideal) .bf16 ws bitsLt_bf16_f32) h) broadcasts_S256x1_S256x128 (ix2 p l) = _
  rw [hn, bits_sixteenth, sixteenth, broadcastTo_apply _ _ _ (ix2 p (0 : Fin 1)) (fun c => by
    match c with
    | ⟨0, _⟩ => rfl
    | ⟨1, _⟩ => rfl), extractStridedSlice_apply _ _ _ _ (ix2 p g) (fun d => by
      match d with
      | ⟨0, _⟩ => show p.val = o 0 + p.val; omega
      | ⟨1, _⟩ => show g.val = o 1 + 0; omega)]
  rfl

theorem wLoV_ix (o : Fin 2 → ℕ) (h : S256x12.Slices o S256x1) (ws : Vec Ideal S256x12 .f32) (x : Vec Ideal S256x128 .i8) (p : Fin 256) (l : Fin 128)
    (g : Fin 12) (h0 : o 0 = 0) (h1 : o 1 = g.val) :
    wLoV (F := Ideal) o h ws x (ix2 p l) = ((nibLo (x (ix2 p l)) : ℝ) : EReal) * ws (ix2 p g) :=
  wScV_ix o h ws _ p l _ (by rw [lo_byte]; exact lo_toInt _) g h0 h1

theorem wHiV_ix (o : Fin 2 → ℕ) (h : S256x12.Slices o S256x1) (ws : Vec Ideal S256x12 .f32) (x : Vec Ideal S256x128 .i8) (p : Fin 256) (l : Fin 128)
    (g : Fin 12) (h0 : o 0 = 0) (h1 : o 1 = g.val) :
    wHiV (F := Ideal) o h ws x (ix2 p l) = ((nibHi (x (ix2 p l)) : ℝ) : EReal) * ws (ix2 p g) :=
  wScV_ix o h ws _ p l _ (by rw [hi_byte]; exact hi_toInt _) g h0 h1

end Cert.KernelIdeal.Val
-- ==== Proof.Val.Pieces.lean ====
/- The lists of pieces the kernel's stores leave in each buffer, in terms of the vectors of Spec and Wgt. -/
module

public import proofs.«01_k».proof.Proof.Val.Wgt

@[expose] public section

noncomputable section

namespace Cert.KernelIdeal.Val

open Cert.KernelIdeal.Gen Cert.Val
open Idealize.ShloMosaic Idealize.ShloMosaic.ValueIdx

/-! ## The rectangles -/

theorem inb_q (r : Fin 8) (g : Fin 12) : ∀ a, (![32 * r.val, 128 * g.val] : Fin 2 → ℕ) a + S32x128.size a ≤ S256x1536.size a := by
  intro a
  match a with
  | ⟨0, _⟩ => show 32 * r.val + 32 ≤ 256; omega
  | ⟨1, _⟩ => show 128 * g.val + 128 ≤ 1536; omega
/-- Chunk `r` of rows, head `g` of columns, of a tile. -/
abbrev rectQ (r : Fin 8) (g : Fin 12) : Rect S256x1536 := Rect.unit ![32 * r.val, 128 * g.val] S32x128.size (inb_q r g)

theorem inb_s (r : Fin 8) : ∀ a, (![32 * r.val, 0] : Fin 2 → ℕ) a + S32x128.size a ≤ S256x128.size a := by
  intro a
  match a with
  | ⟨0, _⟩ => show 32 * r.val + 32 ≤ 256; omega
  | ⟨1, _⟩ => show 0 + 128 ≤ 128; omega
/-- Chunk `r` of rows of the scales. -/
abbrev rectS (r : Fin 8) : Rect S256x128 := Rect.unit ![32 * r.val, 0] S32x128.size (inb_s r)

theorem inb_o (k : Fin 12) : ∀ a, (![0, 128 * k.val] : Fin 2 → ℕ) a + S256x128.size a ≤ S256x1536.size a := by
  intro a
  match a with
  | ⟨0, _⟩ => show 0 + 256 ≤ 256; omega
  | ⟨1, _⟩ => show 128 * k.val + 128 ≤ 1536; omega
/-- Column block `k` of a tile. -/
abbrev rectO (k : Fin 12) : Rect S256x1536 := Rect.unit ![0, 128 * k.val] S256x128.size (inb_o k)

theorem inb_wr (k : Fin 6) : ∀ a, (![256 * k.val, 0] : Fin 2 → ℕ) a + S256x1536.size a ≤ S1536x1536.size a := by
  intro a
  match a with
  | ⟨0, _⟩ => show 256 * k.val + 256 ≤ 1536; omega
  | ⟨1, _⟩ => show 0 + 1536 ≤ 1536; omega
/-- Row block `k` of the weights. -/
abbrev rectWr (k : Fin 6) : Rect S1536x1536 := Rect.unit ![256 * k.val, 0] S256x1536.size (inb_wr k)

theorem inb_w (k : Fin 6) (g : Fin 12) : ∀ a, (![256 * k.val, 128 * g.val] : Fin 2 → ℕ) a + S256x128.size a ≤ S1536x1536.size a := by
  intro a
  match a with
  | ⟨0, _⟩ => show 256 * k.val + 256 ≤ 1536; omega
  | ⟨1, _⟩ => show 128 * g.val + 128 ≤ 1536; omega
/-- Row block `k`, column block `g` of the weights. -/
abbrev rectW (k : Fin 6) (g : Fin 12) : Rect S1536x1536 := Rect.unit ![256 * k.val, 128 * g.val] S256x128.size (inb_w k g)

theorem inb_wc (k : Fin 6) (g : Fin 6) : ∀ a, (![256 * k.val, 128 * g.val] : Fin 2 → ℕ) a + S256x128.size a ≤ S1536x768.size a := by
  intro a
  match a with
  | ⟨0, _⟩ => show 256 * k.val + 256 ≤ 1536; omega
  | ⟨1, _⟩ => show 128 * g.val + 128 ≤ 768; omega
/-- Row block `k`, column block `g` of the packed weights. -/
abbrev rectWc (k : Fin 6) (g : Fin 6) : Rect S1536x768 := Rect.unit ![256 * k.val, 128 * g.val] S256x128.size (inb_wc k g)

theorem inb_ws (k : Fin 6) : ∀ a, (![256 * k.val, 0] : Fin 2 → ℕ) a + S256x12.size a ≤ S1536x12.size a := by
  intro a
  match a with
  | ⟨0, _⟩ => show 256 * k.val + 256 ≤ 1536; omega
  | ⟨1, _⟩ => show 0 + 12 ≤ 12; omega
/-- Row block `k` of the weights' scales. -/
abbrev rectWs (k : Fin 6) : Rect S1536x12 := Rect.unit ![256 * k.val, 0] S256x12.size (inb_ws k)

theorem inb_x (b : Fin 6) (k : Fin 11) : ∀ a, (![b.val, 128 * k.val] : Fin 2 → ℕ) a + S1x128.size a ≤ S6x1408.size a := by
  intro a
  match a with
  | ⟨0, _⟩ => show b.val + 1 ≤ 6; omega
  | ⟨1, _⟩ => show 128 * k.val + 128 ≤ 1408; omega
/-- Batch `b`, lane block `k` of the emitted scales. -/
abbrev rectX (b : Fin 6) (k : Fin 11) : Rect S6x1408 := Rect.unit ![b.val, 128 * k.val] S1x128.size (inb_x b k)

theorem inb_l (b : Fin 6) (k : Fin 11) : ∀ a, (![11 * b.val + k.val, 0] : Fin 2 → ℕ) a + S1x128.size a ≤ S66x128.size a := by
  intro a
  match a with
  | ⟨0, _⟩ => show 11 * b.val + k.val + 1 ≤ 66; omega
  | ⟨1, _⟩ => show 0 + 128 ≤ 128; omega
/-- The line of scales of batch `b`, lane block `k`. -/
abbrev rectLn (b : Fin 6) (k : Fin 11) : Rect S66x128 := Rect.unit ![11 * b.val + k.val, 0] S1x128.size (inb_l b k)

theorem inb_h (k : Fin 2) : ∀ a, (![128 * k.val, 0] : Fin 2 → ℕ) a + S128x128.size a ≤ S256x128.size a := by
  intro a
  match a with
  | ⟨0, _⟩ => show 128 * k.val + 128 ≤ 256; omega
  | ⟨1, _⟩ => show 0 + 128 ≤ 128; omega
/-- Half `k` of the scales. -/
abbrev rectH (k : Fin 2) : Rect S256x128 := Rect.unit ![128 * k.val, 0] S128x128.size (inb_h k)

theorem sl_o (k : Fin 12) : S256x256.Slices ![0, 128 * (k.val % 2)] S256x128 := by revert k; decide
theorem sl_w (g : Fin 12) : S256x12.Slices ![0, g.val] S256x1 := by revert g; decide

/-! ## The orders of the stores -/

/-- The chunks and heads, last stored first. -/
def rgL : List (Fin 8 × Fin 12) :=
  [(7, 11), (7, 10), (7, 9), (7, 8), (7, 7), (7, 6), (7, 5), (7, 4), (7, 3), (7, 2), (7, 1), (7, 0), (6, 11), (6, 10), (6, 9), (6, 8), (6, 7), (6, 6),
   (6, 5), (6, 4), (6, 3), (6, 2), (6, 1), (6, 0), (5, 11), (5, 10), (5, 9), (5, 8), (5, 7), (5, 6), (5, 5), (5, 4), (5, 3), (5, 2), (5, 1), (5, 0),
   (4, 11), (4, 10), (4, 9), (4, 8), (4, 7), (4, 6), (4, 5), (4, 4), (4, 3), (4, 2), (4, 1), (4, 0), (3, 11), (3, 10), (3, 9), (3, 8), (3, 7), (3, 6),
   (3, 5), (3, 4), (3, 3), (3, 2), (3, 1), (3, 0), (2, 11), (2, 10), (2, 9), (2, 8), (2, 7), (2, 6), (2, 5), (2, 4), (2, 3), (2, 2), (2, 1), (2, 0),
   (1, 11), (1, 10), (1, 9), (1, 8), (1, 7), (1, 6), (1, 5), (1, 4), (1, 3), (1, 2), (1, 1), (1, 0), (0, 11), (0, 10), (0, 9), (0, 8), (0, 7), (0, 6),
   (0, 5), (0, 4), (0, 3), (0, 2), (0, 1), (0, 0)]
/-- The weights' blocks, last stored first: `true` for the high codes. -/
def wgL : List (Fin 6 × Fin 6 × Bool) :=
  [(5, 5, true), (5, 5, false), (5, 4, true), (5, 4, false), (5, 3, true), (5, 3, false), (5, 2, true), (5, 2, false), (5, 1, true), (5, 1, false),
   (5, 0, true), (5, 0, false), (4, 5, true), (4, 5, false), (4, 4, true), (4, 4, false), (4, 3, true), (4, 3, false), (4, 2, true), (4, 2, false),
   (4, 1, true), (4, 1, false), (4, 0, true), (4, 0, false), (3, 5, true), (3, 5, false), (3, 4, true), (3, 4, false), (3, 3, true), (3, 3, false),
   (3, 2, true), (3, 2, false), (3, 1, true), (3, 1, false), (3, 0, true), (3, 0, false), (2, 5, true), (2, 5, false), (2, 4, true), (2, 4, false),
   (2, 3, true), (2, 3, false), (2, 2, true), (2, 2, false), (2, 1, true), (2, 1, false), (2, 0, true), (2, 0, false), (1, 5, true), (1, 5, false),
   (1, 4, true), (1, 4, false), (1, 3, true), (1, 3, false), (1, 2, true), (1, 2, false), (1, 1, true), (1, 1, false), (1, 0, true), (1, 0, false),
   (0, 5, true), (0, 5, false), (0, 4, true), (0, 4, false), (0, 3, true), (0, 3, false), (0, 2, true), (0, 2, false), (0, 1, true), (0, 1, false),
   (0, 0, true), (0, 0, false)]
/-- The emitted scales' blocks, last stored first. -/
def xgL : List (Fin 6 × Fin 11) :=
  [(5, 10), (5, 9), (5, 8), (5, 7), (5, 6), (5, 5), (5, 4), (5, 3), (5, 2), (5, 1), (5, 0), (4, 10), (4, 9), (4, 8), (4, 7), (4, 6), (4, 5), (4, 4),
   (4, 3), (4, 2), (4, 1), (4, 0), (3, 10), (3, 9), (3, 8), (3, 7), (3, 6), (3, 5), (3, 4), (3, 3), (3, 2), (3, 1), (3, 0), (2, 10), (2, 9), (2, 8),
   (2, 7), (2, 6), (2, 5), (2, 4), (2, 3), (2, 2), (2, 1), (2, 0), (1, 10), (1, 9), (1, 8), (1, 7), (1, 6), (1, 5), (1, 4), (1, 3), (1, 2), (1, 1),
   (1, 0), (0, 10), (0, 9), (0, 8), (0, 7), (0, 6), (0, 5), (0, 4), (0, 3), (0, 2), (0, 1), (0, 0)]

section Lists
variable {F : FTy → Type} [FloatOps F]

/-- One chunk of one head as the kernel reads it. -/
def ldR (arg1 : Memref sig .tc .vmem S256x1536 .bf16) (harg1 : arg1.IsWhole) (x0 : Vec F S256x1536 .bf16) (r : Fin 8) (g : Fin 12) :
    Vec F S32x128 .bf16 :=
  View.readAt (Elt F) arg1.view (rectQ r g).toLoadRect (harg1.unread x0)
/-- The codes' pieces. -/
def codeL (arg1 : Memref sig .tc .vmem S256x1536 .bf16) (harg1 : arg1.IsWhole) (x0 : Vec F S256x1536 .bf16) :
    List (View.Piece (Elt F) S256x1536 .i8) :=
  rgL.map fun q => ⟨rectQ q.1 q.2, codeV (ldR arg1 harg1 x0 q.1) q.2⟩
/-- The multiply's left operand's pieces. -/
def lhsL (arg1 : Memref sig .tc .vmem S256x1536 .bf16) (harg1 : arg1.IsWhole) (x0 : Vec F S256x1536 .bf16) :
    List (View.Piece (Elt F) S256x1536 .bf16) :=
  rgL.map fun q => ⟨rectQ q.1 q.2, lhsV (ldR arg1 harg1 x0 q.1) q.2⟩
/-- The scales' pieces. -/
def scaleL (arg1 : Memref sig .tc .vmem S256x1536 .bf16) (harg1 : arg1.IsWhole) (x0 : Vec F S256x1536 .bf16) :
    List (View.Piece (Elt F) S256x128 .f32) :=
  ([7, 6, 5, 4, 3, 2, 1, 0] : List (Fin 8)).map fun r => ⟨rectS r, scaleV (ldR arg1 harg1 x0 r)⟩
/-- The output's pieces. -/
def outL (arg7 : Memref sig .tc .vmem S1536x1536 .bf16) (harg7 : arg7.IsWhole) (w : Vec F S1536x1536 .bf16)
    (argl : Memref sig .tc .vmem S256x1536 .bf16) (hargl : argl.IsWhole) (lhs : Vec F S256x1536 .bf16)
    (args : Memref sig .tc .vmem S256x128 .f32) (hargs : args.IsWhole) (sc : Vec F S256x128 .f32) :
    List (View.Piece (Elt F) S256x1536 .bf16) :=
  ([11, 10, 9, 8, 7, 6, 5, 4, 3, 2, 1, 0] : List (Fin 12)).map fun k => ⟨rectO k, outV ![0, 128 * (k.val % 2)] (sl_o k)
    (View.readAt (Elt F) argl.view (Rect.unit ![0, 0] S256x1536.size inb_S256x1536_S256x1536_0_0).toLoadRect (hargl.unread lhs))
    (View.readAt (Elt F) args.view (Rect.unit ![0, 0] S256x128.size inb_S256x128_S256x128_0_0).toLoadRect (hargs.unread sc))
    (View.readAt (Elt F) arg7.view (rectWr ⟨k.val / 2, by omega⟩).toLoadRect (harg7.unread w))⟩
/-- The unpacked weights' pieces. -/
def wL (arg2 : Memref sig .tc .vmem S1536x768 .i8) (harg2 : arg2.IsWhole) (wc : Vec F S1536x768 .i8)
    (arg3 : Memref sig .tc .vmem S1536x12 .f32) (harg3 : arg3.IsWhole) (ws : Vec F S1536x12 .f32) :
    List (View.Piece (Elt F) S1536x1536 .bf16) :=
  wgL.map fun q => match q with
    | (k, g, true) => ⟨rectW k ⟨6 + g.val, by omega⟩, wHiV ![0, 6 + g.val] (sl_w ⟨6 + g.val, by omega⟩)
        (View.readAt (Elt F) arg3.view (rectWs k).toLoadRect (harg3.unread ws)) (View.readAt (Elt F) arg2.view (rectWc k g).toLoadRect (harg2.unread wc))⟩
    | (k, g, false) => ⟨rectW k ⟨g.val, by omega⟩, wLoV ![0, g.val] (sl_w ⟨g.val, by omega⟩)
        (View.readAt (Elt F) arg3.view (rectWs k).toLoadRect (harg3.unread ws)) (View.readAt (Elt F) arg2.view (rectWc k g).toLoadRect (harg2.unread wc))⟩
/-- A line: the diagonal of a block of scales. -/
def lineV (v : Vec F S128x128 .f32) : FVec F S1x128 .f32 :=
  shapeCast S1x128 (shapeCast S1x128 (multiReduction .add [0] S128
    (select (cmpi .eq (iota .tc S128x128 32 [0] iota_S128x128_d0_w32) (iota .tc S128x128 32 [1] iota_S128x128_d1_w32)) v
      (broadcast S128x128 (Scalar.ofBits .f32 0x00000000#32))) 0x00000000#32 reduces_S128x128_S128 (.inl rfl) rfl) shapeCasts_S128_S1x128)
    shapeCasts_S1x128_S1x128
/-- The lines' pieces of one tile. -/
def lineL (o0 o1 : Fin 2 → ℕ) (h0 : ∀ a, o0 a + S1x128.size a ≤ S66x128.size a) (h1 : ∀ a, o1 a + S1x128.size a ≤ S66x128.size a)
    (args : Memref sig .tc .vmem S256x128 .f32) (arg1 : Memref sig .tc .vmem S256x1536 .bf16) (harg1 : arg1.IsWhole)
    (x0 : Vec F S256x1536 .bf16) : List (View.Piece (Elt F) S66x128 .f32) :=
  [⟨Rect.unit o1 S1x128.size h1, lineV (args.view.readCov (scaleL arg1 harg1 x0) (rectH 1).toLoadRect)⟩,
   ⟨Rect.unit o0 S1x128.size h0, lineV (args.view.readCov (scaleL arg1 harg1 x0) (rectH 0).toLoadRect)⟩]
/-- The emitted scales' pieces. -/
def xsL (arg12 : Memref sig .tc .vmem S66x128 .f32) (harg12 : arg12.IsWhole) (ln : Vec F S66x128 .f32) :
    List (View.Piece (Elt F) S6x1408 .f32) :=
  xgL.map fun q => ⟨rectX q.1 q.2, View.readAt (Elt F) arg12.view (rectLn q.1 q.2).toLoadRect (harg12.unread ln)⟩

end Lists

end Cert.KernelIdeal.Val
-- ==== Proof.Val.Reads.lean ====
/- What every buffer reads after the kernel's stores, whatever it held before. -/
module

public import proofs.«01_k».proof.Proof.Val.Pieces
public import Idealize.ShloMosaic.Lib.WholeRead
public import Idealize.ShloMosaic.Lib.Writes
public import Idealize.ShloMosaic.Lib.Pipeline.ValueKit.Geometry

@[expose] public section

noncomputable section

namespace Cert.KernelIdeal.Val

open Cert.KernelIdeal.Gen Cert.Val
open Idealize.ShloMosaic Idealize.ShloMosaic.ValueIdx

theorem emb2 {A B : ℕ} {size : Fin 2 → ℕ} (o0 o1 : ℕ) (inb : ∀ c : Fin 2, (![o0, o1] : Fin 2 → ℕ) c + size c ≤ (⟨2, ![A, B]⟩ : Shape).size c)
    (x : (Rect.unit (s := (⟨2, ![A, B]⟩ : Shape)) ![o0, o1] size inb).shape.Idx) (p : Fin A) (q : Fin B)
    (hp : p.val = o0 + (x (0 : Fin 2)).val) (hq : q.val = o1 + (x (1 : Fin 2)).val) :
    (Rect.unit (s := (⟨2, ![A, B]⟩ : Shape)) ![o0, o1] size inb).emb x = ix2 p q := by
  funext c
  refine Fin.ext ((ValueKit.rect_emb_unit_val _ _ _ x c).trans ?_)
  match c with
  | ⟨0, _⟩ => exact hp.symm
  | ⟨1, _⟩ => exact hq.symm

theorem mem2 {A B : ℕ} {size : Fin 2 → ℕ} (o0 o1 : ℕ) (inb : ∀ c : Fin 2, (![o0, o1] : Fin 2 → ℕ) c + size c ≤ (⟨2, ![A, B]⟩ : Shape).size c)
    (y : (⟨2, ![A, B]⟩ : Shape).Idx) (h0 : o0 ≤ (y 0).val ∧ (y 0).val < o0 + size 0) (h1 : o1 ≤ (y 1).val ∧ (y 1).val < o1 + size 1) :
    y ∈ (Rect.unit (s := (⟨2, ![A, B]⟩ : Shape)) ![o0, o1] size inb).set := by
  refine Rect.mem_set_unit.2 fun c => ?_
  match c with
  | ⟨0, _⟩ => exact h0
  | ⟨1, _⟩ => exact h1

/-! ## One tile -/

/-- A tile's row as heads by lanes. -/
def rowOf (x0 : Vec Ideal S256x1536 .bf16) (p : Fin 256) : Fin 12 → Fin 128 → EReal :=
  fun h l => x0 (ix2 p (⟨128 * h.val + l.val, by omega⟩ : Fin 1536))
/-- The head of a column. -/
def hdOf (q : Fin 1536) : Fin 12 := ⟨q.val / 128, by omega⟩
/-- The lane of a column. -/
def lnOf (q : Fin 1536) : Fin 128 := ⟨q.val % 128, by omega⟩
/-- A tile's codes. -/
def codeSpec (x0 : Vec Ideal S256x1536 .bf16) : Vec Ideal S256x1536 .i8 := fun y => rowCode (rowOf x0 (y 0)) (hdOf (y 1)) (lnOf (y 1))
/-- A tile's codes as numbers. -/
def lhsSpec (x0 : Vec Ideal S256x1536 .bf16) : Vec Ideal S256x1536 .bf16 := fun y => intE (codeSpec x0 y)
/-- A tile's scales. -/
def scaleSpec (x0 : Vec Ideal S256x1536 .bf16) : Vec Ideal S256x128 .f32 := fun y => rowScale (rowOf x0 (y 0))
/-- A tile's output from codes, scales and weights. -/
def outSpec (lhs : Vec Ideal S256x1536 .bf16) (sc : Vec Ideal S256x128 .f32) (w : Vec Ideal S1536x1536 .bf16) : Vec Ideal S256x1536 .bf16 :=
  fun y => (∑ k : Fin 1536, lhs (ix2 (y 0) k) * w (ix2 (y 1) k)) * sc (ix2 (y 0) (lnOf (y 1)))
/-- The unpacked code of a weight. -/
def nibOf (wc : Vec Ideal S1536x768 .i8) (n : Fin 1536) (k : Fin 1536) : ℤ :=
  if h : k.val < 768 then nibLo (wc (ix2 n ⟨k.val, h⟩)) else nibHi (wc (ix2 n ⟨k.val - 768, by omega⟩))
/-- The unpacked weights. -/
def wSpec (wc : Vec Ideal S1536x768 .i8) (ws : Vec Ideal S1536x12 .f32) : Vec Ideal S1536x1536 .bf16 :=
  fun y => ((nibOf wc (y 0) (y 1) : ℝ) : EReal) * ws (ix2 (y 0) (hdOf (y 1)))
/-- The scales as emitted, from their lines. -/
def xsSpec (ln : Vec Ideal S66x128 .f32) : Vec Ideal S6x1408 .f32 :=
  fun y => ln (ix2 (⟨11 * (y 0).val + (y 1).val / 128, by have h0 : (y 0).val < 6 := (y 0).isLt; have h1 : (y 1).val < 1408 := (y 1).isLt; omega⟩ : Fin 66)
    (⟨(y 1).val % 128, by omega⟩ : Fin 128))

section One
variable (arg1 : Memref sig .tc .vmem S256x1536 .bf16) (harg1 : arg1.IsWhole) (x0 : Vec Ideal S256x1536 .bf16)

theorem vrow_ldR (r : Fin 8) (a : Fin 32) : vrow (ldR arg1 harg1 x0 r) a = rowOf x0 ⟨32 * r.val + a.val, by omega⟩ := by
  funext h l
  show View.readAt (Elt Ideal) arg1.view (rectQ r h).toLoadRect (harg1.unread x0) (ix2 a l) = _
  refine (Memref.IsWhole.readAt_unread harg1 x0 _ _).trans (congrArg x0 ?_)
  exact emb2 _ _ _ (ix2 a l) _ _ rfl rfl

theorem hdOf_add (g : Fin 12) (l : Fin 128) (h : 128 * g.val + l.val < 1536) : hdOf ⟨128 * g.val + l.val, h⟩ = g :=
  Fin.ext (by show (128 * g.val + l.val) / 128 = g.val; omega)
theorem lnOf_add (g : Fin 12) (l : Fin 128) (h : 128 * g.val + l.val < 1536) : lnOf ⟨128 * g.val + l.val, h⟩ = l :=
  Fin.ext (by show (128 * g.val + l.val) % 128 = l.val; omega)

theorem mem_rgL : ∀ (r : Fin 8) (g : Fin 12), (r, g) ∈ rgL := by decide
theorem mem_wgL : ∀ (k g : Fin 6) (b : Bool), (k, g, b) ∈ wgL := by decide
theorem mem_xgL : ∀ (b : Fin 6) (k : Fin 11), (b, k) ∈ xgL := by decide
theorem mem_8 : ∀ r : Fin 8, r ∈ ([7, 6, 5, 4, 3, 2, 1, 0] : List (Fin 8)) := by decide
theorem mem_12 : ∀ r : Fin 12, r ∈ ([11, 10, 9, 8, 7, 6, 5, 4, 3, 2, 1, 0] : List (Fin 12)) := by decide

theorem covQ (y : S256x1536.Idx) : ∃ r g, y ∈ (rectQ r g).set := by
  have h0 : (y 0).val < 256 := (y 0).isLt
  have h1 : (y 1).val < 1536 := (y 1).isLt
  exact ⟨⟨(y 0).val / 32, by omega⟩, ⟨(y 1).val / 128, by omega⟩,
    mem2 _ _ _ y ⟨by show 32 * ((y 0).val / 32) ≤ _; omega, by show _ < 32 * ((y 0).val / 32) + 32; omega⟩
      ⟨by show 128 * ((y 1).val / 128) ≤ _; omega, by show _ < 128 * ((y 1).val / 128) + 128; omega⟩⟩

theorem covS (y : S256x128.Idx) : ∃ r, y ∈ (rectS r).set := by
  have h0 : (y 0).val < 256 := (y 0).isLt
  have h1 : (y 1).val < 128 := (y 1).isLt
  exact ⟨⟨(y 0).val / 32, by omega⟩,
    mem2 _ _ _ y ⟨by show 32 * ((y 0).val / 32) ≤ _; omega, by show _ < 32 * ((y 0).val / 32) + 32; omega⟩
      ⟨Nat.zero_le _, by show _ < 0 + 128; omega⟩⟩

theorem covO (y : S256x1536.Idx) : ∃ k, y ∈ (rectO k).set := by
  have h0 : (y 0).val < 256 := (y 0).isLt
  have h1 : (y 1).val < 1536 := (y 1).isLt
  exact ⟨⟨(y 1).val / 128, by omega⟩, mem2 _ _ _ y ⟨Nat.zero_le _, by show _ < 0 + 256; omega⟩
    ⟨by show 128 * ((y 1).val / 128) ≤ _; omega, by show _ < 128 * ((y 1).val / 128) + 128; omega⟩⟩

theorem covW (y : S1536x1536.Idx) : ∃ k g, y ∈ (rectW k g).set := by
  have h0 : (y 0).val < 1536 := (y 0).isLt
  have h1 : (y 1).val < 1536 := (y 1).isLt
  exact ⟨⟨(y 0).val / 256, by omega⟩, ⟨(y 1).val / 128, by omega⟩,
    mem2 _ _ _ y ⟨by show 256 * ((y 0).val / 256) ≤ _; omega, by show _ < 256 * ((y 0).val / 256) + 256; omega⟩
      ⟨by show 128 * ((y 1).val / 128) ≤ _; omega, by show _ < 128 * ((y 1).val / 128) + 128; omega⟩⟩

theorem covX (y : S6x1408.Idx) : ∃ b k, y ∈ (rectX b k).set := by
  have h0 : (y 0).val < 6 := (y 0).isLt
  have h1 : (y 1).val < 1408 := (y 1).isLt
  exact ⟨⟨(y 0).val, h0⟩, ⟨(y 1).val / 128, by omega⟩,
    mem2 _ _ _ y ⟨le_refl _, by show _ < (y 0).val + 1; omega⟩
      ⟨by show 128 * ((y 1).val / 128) ≤ _; omega, by show _ < 128 * ((y 1).val / 128) + 128; omega⟩⟩

theorem read_codes {κ : Kind} {sp : Space} (v : View sig κ sp S256x1536 .i8) (f : v.ty.Contents (Elt Ideal)) :
    v.read (Elt Ideal) (v.writes (Elt Ideal) f (codeL arg1 harg1 x0)) = codeSpec x0 := by
  funext y
  refine View.read_writes_apply_of_pieces v f (codeSpec x0) _ (fun p hp => ?_) y ?_
  · obtain ⟨⟨r, g⟩, -, rfl⟩ := List.mem_map.1 hp
    intro x
    obtain ⟨a, l, rfl⟩ : ∃ (a : Fin 32) (l : Fin 128), x = ix2 a l := ⟨x 0, x 1, eq_ix2 x⟩
    rw [show (rectQ r g).emb (ix2 a l) = ix2 (⟨32 * r.val + a.val, by omega⟩ : Fin 256) (⟨128 * g.val + l.val, by omega⟩ : Fin 1536)
      from emb2 _ _ _ (ix2 a l) _ _ rfl rfl]
    show codeV (ldR arg1 harg1 x0 r) g (ix2 a l) = rowCode (rowOf x0 _) (hdOf _) (lnOf _)
    rw [codeV_ix, vrow_ldR, hdOf_add, lnOf_add]
  · obtain ⟨r, g, h⟩ := covQ y
    exact ⟨_, List.mem_map.2 ⟨(r, g), mem_rgL r g, rfl⟩, h⟩

theorem read_lhs {κ : Kind} {sp : Space} (v : View sig κ sp S256x1536 .bf16) (f : v.ty.Contents (Elt Ideal)) :
    v.read (Elt Ideal) (v.writes (Elt Ideal) f (lhsL arg1 harg1 x0)) = lhsSpec x0 := by
  funext y
  refine View.read_writes_apply_of_pieces v f (lhsSpec x0) _ (fun p hp => ?_) y ?_
  · obtain ⟨⟨r, g⟩, -, rfl⟩ := List.mem_map.1 hp
    intro x
    obtain ⟨a, l, rfl⟩ : ∃ (a : Fin 32) (l : Fin 128), x = ix2 a l := ⟨x 0, x 1, eq_ix2 x⟩
    rw [show (rectQ r g).emb (ix2 a l) = ix2 (⟨32 * r.val + a.val, by omega⟩ : Fin 256) (⟨128 * g.val + l.val, by omega⟩ : Fin 1536)
      from emb2 _ _ _ (ix2 a l) _ _ rfl rfl]
    show lhsV (ldR arg1 harg1 x0 r) g (ix2 a l) = intE (rowCode (rowOf x0 _) (hdOf _) (lnOf _))
    rw [lhsV_ix, vrow_ldR, hdOf_add, lnOf_add]
  · obtain ⟨r, g, h⟩ := covQ y
    exact ⟨_, List.mem_map.2 ⟨(r, g), mem_rgL r g, rfl⟩, h⟩

theorem read_scale {κ : Kind} {sp : Space} (v : View sig κ sp S256x128 .f32) (f : v.ty.Contents (Elt Ideal)) :
    v.read (Elt Ideal) (v.writes (Elt Ideal) f (scaleL arg1 harg1 x0)) = scaleSpec x0 := by
  funext y
  refine View.read_writes_apply_of_pieces v f (scaleSpec x0) _ (fun p hp => ?_) y ?_
  · obtain ⟨r, -, rfl⟩ := List.mem_map.1 hp
    intro x
    obtain ⟨a, l, rfl⟩ : ∃ (a : Fin 32) (l : Fin 128), x = ix2 a l := ⟨x 0, x 1, eq_ix2 x⟩
    rw [show (rectS r).emb (ix2 a l) = ix2 (⟨32 * r.val + a.val, by omega⟩ : Fin 256) l
      from emb2 _ _ _ (ix2 a l) _ _ rfl (by show l.val = 0 + l.val; omega)]
    show scaleV (ldR arg1 harg1 x0 r) (ix2 a l) = rowScale (rowOf x0 _)
    rw [scaleV_ix, vrow_ldR]
  · obtain ⟨r, h⟩ := covS y
    exact ⟨_, List.mem_map.2 ⟨r, mem_8 r, rfl⟩, h⟩

theorem lineV_ix (v : Vec Ideal S128x128 .f32) (a : Fin 1) (l : Fin 128) : lineV v (ix2 a l) = v (ix2 l l) := by
  unfold lineV
  rw [shapeCast_self]
  rw [shapeCast_apply _ _ _ (ix1 l) (by rw [Shape.rowMajor_val_one, Shape.rowMajor_val_two]; show l.val = a.val * 128 + l.val; omega)]
  refine (Ideal.multiReduction_add_single _ 0x00000000#32 reduces_S128x128_S128 (.inl rfl) rfl (ix1 l)).trans ?_
  have e : ∀ d : Fin 128, reduces_S128x128_S128.lift (ix1 l) d = ix2 d l := fun d => by
    funext c
    match c with
    | ⟨0, _⟩ => rfl
    | ⟨1, _⟩ => rfl
  refine (Finset.sum_eq_single (s := (Finset.univ : Finset (Fin 128))) l (fun d _ hd => ?_) (fun h => absurd (Finset.mem_univ _) h)).trans ?_
  · rw [e]
    show Scalar.select (IntOp.cmpi .eq (BitVec.ofNat 32 (0 * 128 + d.val)) (BitVec.ofNat 32 (0 * 128 + l.val))) (v (ix2 d l)) (Ideal.ofBits .f32 0x00000000#32) = 0
    have hne : ¬ BitVec.ofNat 32 (0 * 128 + d.val) = BitVec.ofNat 32 (0 * 128 + l.val) := fun h => hd (Fin.ext (by
      have := congrArg BitVec.toNat h
      simp only [BitVec.toNat_ofNat] at this
      omega))
    rw [bits_zero]
    have hb : IntOp.cmpi .eq (BitVec.ofNat 32 (0 * 128 + d.val)) (BitVec.ofNat 32 (0 * 128 + l.val)) = 0#1 := by
      unfold IntOp.cmpi
      simp only [beq_eq_false_iff_ne.2 hne]
      rfl
    rw [hb]
    rfl
  · rw [e]
    show Scalar.select (IntOp.cmpi .eq (BitVec.ofNat 32 (0 * 128 + l.val)) (BitVec.ofNat 32 (0 * 128 + l.val))) (v (ix2 l l)) (Ideal.ofBits .f32 0x00000000#32) = _
    simp [Scalar.select, IntOp.cmpi]

theorem line_half (args : Memref sig .tc .vmem S256x128 .f32) (k : Fin 2) (a : Fin 1) (l : Fin 128) :
    lineV (args.view.readCov (scaleL arg1 harg1 x0) (rectH k).toLoadRect) (ix2 a l)
      = rowScale (rowOf x0 ⟨128 * k.val + l.val, by omega⟩) := by
  rw [lineV_ix]
  show args.view.read (Elt Ideal) (args.view.writes (Elt Ideal) args.view.junk (scaleL arg1 harg1 x0)) ((rectH k).emb (ix2 l l)) = _
  rw [read_scale, show (rectH k).emb (ix2 l l) = ix2 (⟨128 * k.val + l.val, by omega⟩ : Fin 256) l
    from emb2 _ _ _ (ix2 l l) _ _ rfl (by show l.val = 0 + l.val; omega)]
  rfl

/-- The lines after a tile's two are written at rows `2t` and `2t + 1`. -/
def lineSpec (x0 : Vec Ideal S256x1536 .bf16) (t : ℕ) (ln : Vec Ideal S66x128 .f32) : Vec Ideal S66x128 .f32 := fun y =>
  if h : 2 * t ≤ (y 0).val ∧ (y 0).val < 2 * t + 2 then
    rowScale (rowOf x0 ⟨128 * ((y 0).val - 2 * t) + (y 1).val, by have h1 : (y 1).val < 128 := (y 1).isLt; omega⟩)
  else ln y

theorem read_lines {κ : Kind} {sp : Space} (v : View sig κ sp S66x128 .f32) (f : v.ty.Contents (Elt Ideal))
    (args : Memref sig .tc .vmem S256x128 .f32) (t : ℕ) (o0 o1 : Fin 2 → ℕ) (e0 : o0 = ![2 * t, 0]) (e1 : o1 = ![2 * t + 1, 0])
    (h0 : ∀ a, o0 a + S1x128.size a ≤ S66x128.size a) (h1 : ∀ a, o1 a + S1x128.size a ≤ S66x128.size a) :
    v.read (Elt Ideal) (v.writes (Elt Ideal) f (lineL o0 o1 h0 h1 args arg1 harg1 x0)) = lineSpec x0 t (v.read (Elt Ideal) f) := by
  subst e0 e1
  funext y
  have hy1 : (y 1).val < 128 := (y 1).isLt
  have pc : ∀ p ∈ lineL ![2 * t, 0] ![2 * t + 1, 0] h0 h1 args arg1 harg1 x0, ∀ x : p.1.shape.Idx,
      p.2 x = lineSpec x0 t (v.read (Elt Ideal) f) (p.1.emb x) := by
    refine List.forall_mem_cons.2 ⟨fun x => ?_, List.forall_mem_cons.2 ⟨fun x => ?_, fun _ h => absurd h List.not_mem_nil⟩⟩
    · obtain ⟨a, l, rfl⟩ : ∃ (a : Fin 1) (l : Fin 128), x = ix2 a l := ⟨x 0, x 1, eq_ix2 x⟩
      have hb : 2 * t + 1 + 1 ≤ 66 := h1 0
      rw [show (Rect.unit (s := S66x128) ![2 * t + 1, 0] S1x128.size h1).emb (ix2 a l) = ix2 (⟨2 * t + 1, by omega⟩ : Fin 66) l
        from emb2 _ _ _ (ix2 a l) _ _ (by show 2 * t + 1 = 2 * t + 1 + a.val; omega) (by show l.val = 0 + l.val; omega)]
      refine (line_half arg1 harg1 x0 args 1 a l).trans ?_
      unfold lineSpec
      rw [dif_pos ⟨by show 2 * t ≤ 2 * t + 1; omega, by show 2 * t + 1 < 2 * t + 2; omega⟩]
      congr 2
      refine Fin.ext ?_
      show 128 * 1 + l.val = 128 * (2 * t + 1 - 2 * t) + l.val
      omega
    · obtain ⟨a, l, rfl⟩ : ∃ (a : Fin 1) (l : Fin 128), x = ix2 a l := ⟨x 0, x 1, eq_ix2 x⟩
      have hb : 2 * t + 1 ≤ 66 := h0 0
      rw [show (Rect.unit (s := S66x128) ![2 * t, 0] S1x128.size h0).emb (ix2 a l) = ix2 (⟨2 * t, by omega⟩ : Fin 66) l
        from emb2 _ _ _ (ix2 a l) _ _ (by show 2 * t = 2 * t + a.val; omega) (by show l.val = 0 + l.val; omega)]
      refine (line_half arg1 harg1 x0 args 0 a l).trans ?_
      unfold lineSpec
      rw [dif_pos ⟨by show 2 * t ≤ 2 * t; omega, by show 2 * t < 2 * t + 2; omega⟩]
      congr 2
      refine Fin.ext ?_
      show 128 * 0 + l.val = 128 * (2 * t - 2 * t) + l.val
      omega
  by_cases h : 2 * t ≤ (y 0).val ∧ (y 0).val < 2 * t + 2
  · refine View.read_writes_apply_of_pieces v f (lineSpec x0 t (v.read (Elt Ideal) f)) _ pc y ?_
    by_cases hh : (y 0).val = 2 * t
    · have hm : y ∈ (Rect.unit (s := S66x128) ![2 * t, 0] S1x128.size h0).set :=
        mem2 _ _ _ y ⟨by omega, by show _ < 2 * t + 1; omega⟩ ⟨Nat.zero_le _, by show _ < 0 + 128; omega⟩
      exact ⟨_, List.mem_cons_of_mem _ List.mem_cons_self, hm⟩
    · have hm : y ∈ (Rect.unit (s := S66x128) ![2 * t + 1, 0] S1x128.size h1).set :=
        mem2 _ _ _ y ⟨by omega, by show _ < 2 * t + 1 + 1; omega⟩ ⟨Nat.zero_le _, by show _ < 0 + 128; omega⟩
      exact ⟨_, List.mem_cons_self, hm⟩
  · unfold lineSpec lineL
    rw [dif_neg h]
    have n1 : y ∉ (Rect.unit (s := S66x128) ![2 * t + 1, 0] S1x128.size h1).set := fun hm => by
      have h2 : 2 * t + 1 ≤ (y 0).val ∧ (y 0).val < 2 * t + 1 + 1 := Rect.mem_set_unit.1 hm 0
      omega
    have n0 : y ∉ (Rect.unit (s := S66x128) ![2 * t, 0] S1x128.size h0).set := fun hm => by
      have h2 : 2 * t ≤ (y 0).val ∧ (y 0).val < 2 * t + 1 := Rect.mem_set_unit.1 hm 0
      omega
    exact (View.read_writes_cons_miss v f ⟨_, _⟩ _ y n1).trans (View.read_writes_cons_miss v f ⟨_, _⟩ [] y n0)

end One

theorem readAt_full2 {A B : ℕ} {e : EltTy} (m : Memref sig .tc .vmem (⟨2, ![A, B]⟩ : Shape) e) (h : m.IsWhole)
    (X : (⟨2, ![A, B]⟩ : Shape).Idx → Elt Ideal e)
    (inb : ∀ c : Fin 2, (![0, 0] : Fin 2 → ℕ) c + (⟨2, ![A, B]⟩ : Shape).size c ≤ (⟨2, ![A, B]⟩ : Shape).size c) :
    View.readAt (Elt Ideal) m.view (Rect.unit (s := (⟨2, ![A, B]⟩ : Shape)) ![0, 0] (⟨2, ![A, B]⟩ : Shape).size inb).toLoadRect (h.unread X) = X := by
  funext x
  refine (Memref.IsWhole.readAt_unread h X _ _).trans (congrArg X ?_)
  refine (emb2 _ _ _ x (x 0) (x 1) (Nat.zero_add _).symm (Nat.zero_add _).symm).trans (eq_ix2 (n0 := A) (n1 := B) x).symm

theorem read_out {κ : Kind} {sp : Space} (v : View sig κ sp S256x1536 .bf16) (f : v.ty.Contents (Elt Ideal))
    (arg7 : Memref sig .tc .vmem S1536x1536 .bf16) (harg7 : arg7.IsWhole) (w : Vec Ideal S1536x1536 .bf16)
    (argl : Memref sig .tc .vmem S256x1536 .bf16) (hargl : argl.IsWhole) (lhs : Vec Ideal S256x1536 .bf16)
    (args : Memref sig .tc .vmem S256x128 .f32) (hargs : args.IsWhole) (sc : Vec Ideal S256x128 .f32) :
    v.read (Elt Ideal) (v.writes (Elt Ideal) f (outL arg7 harg7 w argl hargl lhs args hargs sc)) = outSpec lhs sc w := by
  funext y
  refine View.read_writes_apply_of_pieces v f (outSpec lhs sc w) _ (fun p hp => ?_) y ?_
  · obtain ⟨k, -, rfl⟩ := List.mem_map.1 hp
    intro x
    obtain ⟨a, l, rfl⟩ : ∃ (a : Fin 256) (l : Fin 128), x = ix2 a l := ⟨x 0, x 1, eq_ix2 x⟩
    rw [show (rectO k).emb (ix2 a l) = ix2 a (⟨128 * k.val + l.val, by omega⟩ : Fin 1536)
      from emb2 _ _ _ (ix2 a l) _ _ (by show a.val = 0 + a.val; omega) rfl]
    refine (outV_ix ![0, 128 * (k.val % 2)] (sl_o k) _ _ _ a l ⟨128 * (k.val % 2) + l.val, by omega⟩ rfl rfl).trans ?_
    rw [show View.readAt (Elt Ideal) argl.view (Rect.unit ![0, 0] S256x1536.size inb_S256x1536_S256x1536_0_0).toLoadRect (hargl.unread lhs) = lhs
      from readAt_full2 argl hargl lhs _,
      show View.readAt (Elt Ideal) args.view (Rect.unit ![0, 0] S256x128.size inb_S256x128_S256x128_0_0).toLoadRect (hargs.unread sc) = sc
      from readAt_full2 args hargs sc _]
    show _ = (∑ j : Fin 1536, lhs (ix2 a j) * w (ix2 (⟨128 * k.val + l.val, by omega⟩ : Fin 1536) j)) * sc (ix2 a (lnOf ⟨128 * k.val + l.val, by omega⟩))
    rw [lnOf_add]
    congr 1
    refine Finset.sum_congr rfl fun j _ => ?_
    congr 1
    refine (Memref.IsWhole.readAt_unread harg7 w _ _).trans (congrArg w ?_)
    exact emb2 _ _ _ (ix2 (⟨128 * (k.val % 2) + l.val, by omega⟩ : Fin 256) j) _ _
      (by show 128 * k.val + l.val = 256 * (k.val / 2) + (128 * (k.val % 2) + l.val); omega) (by show j.val = 0 + j.val; omega)
  · obtain ⟨k, h⟩ := covO y
    exact ⟨_, List.mem_map.2 ⟨k, mem_12 _, rfl⟩, h⟩

theorem read_w {κ : Kind} {sp : Space} (v : View sig κ sp S1536x1536 .bf16) (f : v.ty.Contents (Elt Ideal))
    (arg2 : Memref sig .tc .vmem S1536x768 .i8) (harg2 : arg2.IsWhole) (wc : Vec Ideal S1536x768 .i8)
    (arg3 : Memref sig .tc .vmem S1536x12 .f32) (harg3 : arg3.IsWhole) (ws : Vec Ideal S1536x12 .f32) :
    v.read (Elt Ideal) (v.writes (Elt Ideal) f (wL arg2 harg2 wc arg3 harg3 ws)) = wSpec wc ws := by
  funext y
  have hws : ∀ (k : Fin 6) (a : Fin 256) (g : Fin 12), View.readAt (Elt Ideal) arg3.view (rectWs k).toLoadRect (harg3.unread ws) (ix2 a g)
      = ws (ix2 (⟨256 * k.val + a.val, by omega⟩ : Fin 1536) g) := fun k a g =>
    (Memref.IsWhole.readAt_unread harg3 ws _ _).trans (congrArg ws (emb2 _ _ _ (ix2 a g) _ _ rfl (by show g.val = 0 + g.val; omega)))
  have hwc : ∀ (k g : Fin 6) (a : Fin 256) (l : Fin 128), View.readAt (Elt Ideal) arg2.view (rectWc k g).toLoadRect (harg2.unread wc) (ix2 a l)
      = wc (ix2 (⟨256 * k.val + a.val, by omega⟩ : Fin 1536) (⟨128 * g.val + l.val, by omega⟩ : Fin 768)) := fun k g a l =>
    (Memref.IsWhole.readAt_unread harg2 wc _ _).trans (congrArg wc (emb2 _ _ _ (ix2 a l) _ _ rfl rfl))
  refine View.read_writes_apply_of_pieces v f (wSpec wc ws) _ (fun p hp => ?_) y ?_
  · obtain ⟨⟨k, g, b⟩, -, rfl⟩ := List.mem_map.1 hp
    cases b with
    | true =>
      intro x
      obtain ⟨a, l, rfl⟩ : ∃ (a : Fin 256) (l : Fin 128), x = ix2 a l := ⟨x 0, x 1, eq_ix2 x⟩
      show wHiV ![0, 6 + g.val] (sl_w ⟨6 + g.val, by omega⟩)
        (View.readAt (Elt Ideal) arg3.view (rectWs k).toLoadRect (harg3.unread ws)) (View.readAt (Elt Ideal) arg2.view (rectWc k g).toLoadRect (harg2.unread wc)) (ix2 a l)
        = wSpec wc ws ((rectW k ⟨6 + g.val, by omega⟩).emb (ix2 a l))
      rw [show (rectW k ⟨6 + g.val, by omega⟩).emb (ix2 a l) = ix2 (⟨256 * k.val + a.val, by omega⟩ : Fin 1536) (⟨128 * (6 + g.val) + l.val, by omega⟩ : Fin 1536)
        from emb2 _ _ _ (ix2 a l) _ _ rfl rfl]
      rw [wHiV_ix _ _ _ _ a l ⟨6 + g.val, by omega⟩ rfl rfl, hws, hwc]
      unfold wSpec nibOf
      rw [dif_neg (by show ¬ 128 * (6 + g.val) + l.val < 768; omega)]
      rw [show hdOf ((ix2 (⟨256 * k.val + a.val, by omega⟩ : Fin 1536) (⟨128 * (6 + g.val) + l.val, by omega⟩ : Fin 1536)) 1) = (⟨6 + g.val, by omega⟩ : Fin 12)
        from hdOf_add ⟨6 + g.val, by omega⟩ l _]
      congr 5
      refine congrArg (ix2 _) (Fin.ext ?_)
      show 128 * g.val + l.val = 128 * (6 + g.val) + l.val - 768
      omega
    | false =>
      intro x
      obtain ⟨a, l, rfl⟩ : ∃ (a : Fin 256) (l : Fin 128), x = ix2 a l := ⟨x 0, x 1, eq_ix2 x⟩
      show wLoV ![0, g.val] (sl_w ⟨g.val, by omega⟩)
        (View.readAt (Elt Ideal) arg3.view (rectWs k).toLoadRect (harg3.unread ws)) (View.readAt (Elt Ideal) arg2.view (rectWc k g).toLoadRect (harg2.unread wc)) (ix2 a l)
        = wSpec wc ws ((rectW k ⟨g.val, by omega⟩).emb (ix2 a l))
      rw [show (rectW k ⟨g.val, by omega⟩).emb (ix2 a l) = ix2 (⟨256 * k.val + a.val, by omega⟩ : Fin 1536) (⟨128 * g.val + l.val, by omega⟩ : Fin 1536)
        from emb2 _ _ _ (ix2 a l) _ _ rfl rfl]
      rw [wLoV_ix _ _ _ _ a l ⟨g.val, by omega⟩ rfl rfl, hws, hwc]
      unfold wSpec nibOf
      rw [dif_pos (by show 128 * g.val + l.val < 768; omega)]
      rw [show hdOf ((ix2 (⟨256 * k.val + a.val, by omega⟩ : Fin 1536) (⟨128 * g.val + l.val, by omega⟩ : Fin 1536)) 1) = (⟨g.val, by omega⟩ : Fin 12)
        from hdOf_add ⟨g.val, by omega⟩ l _]
  · obtain ⟨k, g, h⟩ := covW y
    by_cases hg : g.val < 6
    · exact ⟨_, List.mem_map.2 ⟨(k, ⟨g.val, hg⟩, false), mem_wgL _ _ _, rfl⟩, h⟩
    · have e : g = ⟨6 + (g.val - 6), by omega⟩ := Fin.ext (by show g.val = 6 + (g.val - 6); omega)
      rw [e] at h
      exact ⟨_, List.mem_map.2 ⟨(k, ⟨g.val - 6, by omega⟩, true), mem_wgL _ _ _, rfl⟩, h⟩

theorem read_xs {κ : Kind} {sp : Space} (v : View sig κ sp S6x1408 .f32) (f : v.ty.Contents (Elt Ideal))
    (arg12 : Memref sig .tc .vmem S66x128 .f32) (harg12 : arg12.IsWhole) (ln : Vec Ideal S66x128 .f32) :
    v.read (Elt Ideal) (v.writes (Elt Ideal) f (xsL arg12 harg12 ln)) = xsSpec ln := by
  funext y
  refine View.read_writes_apply_of_pieces v f (xsSpec ln) _ (fun p hp => ?_) y ?_
  · obtain ⟨⟨b, k⟩, -, rfl⟩ := List.mem_map.1 hp
    intro x
    obtain ⟨a, l, rfl⟩ : ∃ (a : Fin 1) (l : Fin 128), x = ix2 a l := ⟨x 0, x 1, eq_ix2 x⟩
    rw [show (rectX b k).emb (ix2 a l) = ix2 b (⟨128 * k.val + l.val, by omega⟩ : Fin 1408)
      from emb2 _ _ _ (ix2 a l) _ _ (by show b.val = b.val + a.val; omega) rfl]
    refine (Memref.IsWhole.readAt_unread harg12 ln _ _).trans (congrArg ln ?_)
    exact emb2 _ _ _ (ix2 a l) _ _
      (by show 11 * b.val + (128 * k.val + l.val) / 128 = 11 * b.val + k.val + a.val; omega)
      (by show (128 * k.val + l.val) % 128 = 0 + l.val; omega)
  · obtain ⟨b, k, h⟩ := covX y
    exact ⟨_, List.mem_map.2 ⟨(b, k), mem_xgL _ _, rfl⟩, h⟩

end Cert.KernelIdeal.Val
-- ==== Proof.Val.Data.lean ====
/- What the launch's proof carries: the value of every staging buffer after each point, and of the scratch between points. -/
module

public import proofs.«01_k».proof.Proof.Val.Runs
public import proofs.«01_k».proof.Proof.Val.Reads

@[expose] public section

noncomputable section

namespace Cert.KernelIdeal.Val

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point. -/
abbrev pt0 : Fin cfg0.N := ⟨0, lt_of_lt_of_eq (by omega : 0 < 34) N_0.symm⟩
/-- The activations' block at a point. -/
def xblk (c : Dev nD) (t : Fin cfg0.N) : Vec Ideal S256x1536 .bf16 := iblk m c 0 t
/-- Tile `n` of the activations (the last again after it). -/
def blk (c : Dev nD) (n : ℕ) : Vec Ideal S256x1536 .bf16 :=
  xblk m c ⟨min n 32, lt_of_lt_of_eq (by omega : min n 32 < 34) N_0.symm⟩
/-- The unpacked weights. -/
def wts (c : Dev nD) : Vec Ideal S1536x1536 .bf16 := wSpec (iblk m c 1 pt0) (iblk m c 2 pt0)
/-- The output tile written at point `n`: tile `n - 1` multiplied. -/
def outB (c : Dev nD) (n : ℕ) : Vec Ideal S256x1536 .bf16 := outSpec (lhsSpec (blk m c (n - 1))) (scaleSpec (blk m c (n - 1))) (wts m c)
/-- The lines when all tiles are quantised. -/
def lineAll (c : Dev nD) : Vec Ideal S66x128 .f32 := fun y =>
  rowScale (rowOf (blk m c ((y 0).val / 2)) ⟨128 * ((y 0).val % 2) + (y 1).val, by have h : (y 1).val < 128 := (y 1).isLt; omega⟩)

/-- What the scratch holds after tile `n` is quantised: its codes and scales in the buffers of its parity, and the lines so far. -/
def St (c : Dev nD) (n : ℕ) (d1 d2 : Vec Ideal S256x1536 .bf16) (d3 d4 : Vec Ideal S256x128 .f32) (d5 : Vec Ideal S66x128 .f32) : Prop :=
  n ≤ 32 → (n % 2 = 0 → d1 = lhsSpec (blk m c n) ∧ d3 = scaleSpec (blk m c n))
    ∧ (n % 2 = 1 → d2 = lhsSpec (blk m c n) ∧ d4 = scaleSpec (blk m c n))
    ∧ ∀ y : S66x128.Idx, (y 0).val < 2 * n + 2 → d5 y = lineAll m c y

/-- The lines after tile `n`. -/
theorem lines_step (c : Dev nD) (n : ℕ) (d5 : Vec Ideal S66x128 .f32) (h : ∀ y : S66x128.Idx, (y 0).val < 2 * n → d5 y = lineAll m c y) :
    ∀ y : S66x128.Idx, (y 0).val < 2 * n + 2 → lineSpec (blk m c n) n d5 y = lineAll m c y := by
  intro y hy
  unfold lineSpec
  by_cases hh : 2 * n ≤ (y 0).val ∧ (y 0).val < 2 * n + 2
  · rw [dif_pos hh]
    unfold lineAll
    have e : (y 0).val / 2 = n := by omega
    rw [e]
    congr 2
    refine Fin.ext ?_
    show 128 * ((y 0).val - 2 * n) + (y 1).val = 128 * ((y 0).val % 2) + (y 1).val
    omega
  · rw [dif_neg hh]
    exact h y (by omega)

/-- The lines are all there after the last tile. -/
theorem lines_all (c : Dev nD) (d5 : Vec Ideal S66x128 .f32) (h : ∀ y : S66x128.Idx, (y 0).val < 2 * 32 + 2 → d5 y = lineAll m c y) :
    d5 = lineAll m c :=
  funext fun y => h y (by have h0 : (y 0).val < 66 := (y 0).isLt; omega)

/-- The tile at a point before the last. -/
theorem blk_pt (c : Dev nD) (t : Fin cfg0.N) (ht : t.val ≤ 32) : xblk m c t = blk m c t.val :=
  congrArg (xblk m c) (Fin.ext (min_eq_left ht).symm)

/-- The scratch between points. -/
def PhiV (c : Dev nD) : (n : ℕ) → sProp 𝕄
  | 0 => Pipeline.ΦA spec0 c
  | n + 1 => iprop(∃ d1, ∃ d2, ∃ d3, ∃ d4, ∃ d5, ⌜St m c n d1 d2 d3 d4 d5⌝
      ∗ iprop(owns (c : Thread nD τ) scM0_0 fullShare (wts m c) ∗ owns (c : Thread nD τ) scM0_1 fullShare d1 ∗ owns (c : Thread nD τ) scM0_2 fullShare d2
        ∗ owns (c : Thread nD τ) scM0_3 fullShare d3 ∗ owns (c : Thread nD τ) scM0_4 fullShare d4 ∗ owns (c : Thread nD τ) scM0_5 fullShare d5)
      ∗ (∃ r, prngReg c r))

theorem PhiV_zero (c : Dev nD) (n : ℕ) (hz : n = 0) : PhiV m c n = Pipeline.ΦA spec0 c := by subst hz; rfl
theorem PhiV_succ (c : Dev nD) (n : ℕ) :
    PhiV m c (n + 1) = iprop(∃ d1, ∃ d2, ∃ d3, ∃ d4, ∃ d5, ⌜St m c n d1 d2 d3 d4 d5⌝
      ∗ iprop(owns (c : Thread nD τ) scM0_0 fullShare (wts m c) ∗ owns (c : Thread nD τ) scM0_1 fullShare d1 ∗ owns (c : Thread nD τ) scM0_2 fullShare d2
        ∗ owns (c : Thread nD τ) scM0_3 fullShare d3 ∗ owns (c : Thread nD τ) scM0_4 fullShare d4 ∗ owns (c : Thread nD τ) scM0_5 fullShare d5)
      ∗ (∃ r, prngReg c r)) := rfl
theorem PhiV_pos (c : Dev nD) (n : ℕ) (hz : n ≠ 0) :
    PhiV m c n = iprop(∃ d1, ∃ d2, ∃ d3, ∃ d4, ∃ d5, ⌜St m c (n - 1) d1 d2 d3 d4 d5⌝
      ∗ iprop(owns (c : Thread nD τ) scM0_0 fullShare (wts m c) ∗ owns (c : Thread nD τ) scM0_1 fullShare d1 ∗ owns (c : Thread nD τ) scM0_2 fullShare d2
        ∗ owns (c : Thread nD τ) scM0_3 fullShare d3 ∗ owns (c : Thread nD τ) scM0_4 fullShare d4 ∗ owns (c : Thread nD τ) scM0_5 fullShare d5)
      ∗ (∃ r, prngReg c r)) := by
  cases n with
  | zero => exact absurd rfl hz
  | succ n => rfl

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t.val
    | ⟨4, _⟩ => codeSpec (blk m c t.val)
    | ⟨5, _⟩ => xsSpec (lineAll m c)
  Φ t := PhiV m c t.val
  q _ := fullShare
  owed _ := 0

theorem A_eq (c : Dev nD) (w : Fin cfg0.W) : (dats m 0 c).A w = V m c (Pipeline.arrRef spec0 w) := by
  dsimp only [dats]
theorem PhiV_castSucc (c : Dev nD) (t : Fin cfg0.N) : (dats m 0 c).Φ t.castSucc = PhiV m c t.val := by
  dsimp only [dats]; rfl
theorem PhiV_fsucc (c : Dev nD) (t : Fin cfg0.N) : (dats m 0 c).Φ t.succ = PhiV m c (t.val + 1) := by
  dsimp only [dats]; rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t.val := by dsimp only [dats]
theorem after0_4 (c : Dev nD) (t : Fin cfg0.N) : (dats m 0 c).after 4 t = codeSpec (blk m c t.val) := by dsimp only [dats]
theorem after0_5 (c : Dev nD) (t : Fin cfg0.N) : (dats m 0 c).after 5 t = xsSpec (lineAll m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The coordinate of a point. -/
theorem coords_pt (t : Fin cfg0.N) : (grid0.coords t 0).val = t.val := by
  have ht : t.val < 34 := Nat.lt_of_lt_of_eq t.isLt N_0
  have e0 : (grid0.coords t 0).val = t.val / 1 % 34 := Pipeline.Grid.coords_val t 0 (by decide) rfl
  omega
theorem off1_0 (t : Fin cfg0.N) : k0_off1 (grid0.coords t) 0#32 = ![2 * t.val, 0] := (k0_off1_eq (grid0.coords t) 0).trans (by rw [coords_pt]; rfl)
theorem off1_1 (t : Fin cfg0.N) : k0_off1 (grid0.coords t) 1#32 = ![2 * t.val + 1, 0] := (k0_off1_eq (grid0.coords t) 1).trans (by rw [coords_pt]; rfl)
theorem off2_0 (t : Fin cfg0.N) : k0_off2 (grid0.coords t) 0#32 = ![2 * t.val, 0] := (k0_off2_eq (grid0.coords t) 0).trans (by rw [coords_pt]; rfl)
theorem off2_1 (t : Fin cfg0.N) : k0_off2 (grid0.coords t) 1#32 = ![2 * t.val + 1, 0] := (k0_off2_eq (grid0.coords t) 1).trans (by rw [coords_pt]; rfl)
theorem off3_0 (t : Fin cfg0.N) : k0_off3 (grid0.coords t) 0#32 = ![2 * t.val, 0] := (k0_off3_eq (grid0.coords t) 0).trans (by rw [coords_pt]; rfl)
theorem off3_1 (t : Fin cfg0.N) : k0_off3 (grid0.coords t) 1#32 = ![2 * t.val + 1, 0] := (k0_off3_eq (grid0.coords t) 1).trans (by rw [coords_pt]; rfl)

/-- The codes are written back at the last point. -/
theorem flush4_last : ∀ t : Fin cfg0.N, t.val = 33 → (cfg0.win 4).flush t = true := by decide +kernel

/-- Only the last point leaves the codes' buffer idle. -/
theorem idle4_last : ∀ t : Fin cfg0.N, cfg0.idle 4 (grid0.coords t) = true → t.val = 33 := by decide +kernel

/-- The codes' buffer carries its contents through the last point. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have ht := idle4_last t hi
  rw [after0_4, after0_4]
  refine congrArg codeSpec ?_
  show blk m c t.val = blk m c (t.val - 1)
  rw [ht]
  rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 (c : Dev nD) (t : Fin cfg0.N) (h : cfg0.idle 3 (grid0.coords t) = false) :
    (dats m 0 c).leavesExact 3 t = owns (c : Thread nD τ) (ms0_3 t) fullShare (outB m c t.val) := by
  rw [show (dats m 0 c).leavesExact 3 t = owns (c : Thread nD τ) (ms0_3 t) fullShare ((dats m 0 c).after 3 t) from by
    unfold Dat.leavesExact; rw [h], after0_3]
theorem leaves4 (c : Dev nD) (t : Fin cfg0.N) (h : cfg0.idle 4 (grid0.coords t) = false) :
    (dats m 0 c).leavesExact 4 t = owns (c : Thread nD τ) (ms0_4 t) fullShare (codeSpec (blk m c t.val)) := by
  rw [show (dats m 0 c).leavesExact 4 t = owns (c : Thread nD τ) (ms0_4 t) fullShare ((dats m 0 c).after 4 t) from by
    unfold Dat.leavesExact; rw [h], after0_4]
theorem leaves5 (c : Dev nD) (t : Fin cfg0.N) (h : cfg0.idle 5 (grid0.coords t) = false) :
    (dats m 0 c).leavesExact 5 t = owns (c : Thread nD τ) (ms0_5 t) fullShare (xsSpec (lineAll m c)) := by
  rw [show (dats m 0 c).leavesExact 5 t = owns (c : Thread nD τ) (ms0_5 t) fullShare ((dats m 0 c).after 5 t) from by
    unfold Dat.leavesExact; rw [h], after0_5]

end Cert.KernelIdeal.Val
-- ==== Proof.Val.RunA.lean ====
/- The body's run in case A of its branch conditions: the pieces every buffer it stores into ends with. -/
module

public import proofs.«01_k».proof.Proof.Val.Runs

@[expose] public section

-- membership in a rectangle of production extents (`View.cover_of_tiled`): the elaborator's structural look
-- recurses once per coordinate of the long axes
set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4416000 in
/-- What the body's stores leave in each output's staging memref, as pieces (last first) IN CASE A (`scf.if` 0 taken, `scf.if` 1 not taken, `scf.if` 2 not taken, `scf.if` 3 not taken, `scf.if` 4 not taken, `scf.if` 5 not taken: points 0), WITH the
    proof that on whole staging memrefs — the inputs' at their contents, the outputs it leaves idle (3, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : cond0_0 i) (hc1 : ¬cond0_1 i) (hc2 : ¬cond0_2 i) (hc3 : ¬cond0_3 i) (hc4 : ¬cond0_4 i) (hc5 : ¬cond0_5 i)
    (x0 : Vec F S256x1536 .bf16) (x1 : Vec F S1536x768 .i8) (x2 : Vec F S1536x12 .f32) :
    Σ' (L3 : List (View.Piece (Elt F) S256x1536 .bf16)), Σ' (L4 : List (View.Piece (Elt F) S256x1536 .i8)), Σ' (L5 : List (View.Piece (Elt F) S6x1408 .f32)), Σ' (LS0 : List (View.Piece (Elt F) S1536x1536 .bf16)), Σ' (LS1 : List (View.Piece (Elt F) S256x1536 .bf16)), Σ' (LS2 : List (View.Piece (Elt F) S256x1536 .bf16)), Σ' (LS3 : List (View.Piece (Elt F) S256x128 .f32)), Σ' (LS4 : List (View.Piece (Elt F) S256x128 .f32)), { LS5 : List (View.Piece (Elt F) S66x128 .f32) //
      ∀ (xi3 : Vec F S256x1536 .bf16) (xi5 : Vec F S6x1408 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ d, owns (c : Thread nD τ) arg9 fullShare d) ∗ (∃ f, arg10.view.loc (c : Thread nD τ) ↦[arg10.view.set]{fullShare} arg10.view.writes (Elt F) f LS3) ∗ (∃ d, owns (c : Thread nD τ) arg11 fullShare d) ∗ (∃ f, arg12.view.loc (c : Thread nD τ) ↦[arg12.view.set]{fullShare} arg12.view.writes (Elt F) f LS5)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K } := by
  refine ⟨[], ?_, [], ?_, ?_, [], ?_, [], ?_, fun xi3 xi5 E K => ?run⟩
  case run =>
    simp only [cc0_w4a4_oproj_eq_skeleton]; unfold cc0_w4a4_oproj_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part84_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    isplitl [HS1]; · iexists _; iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexists _; iexact HS5

end Cert.KernelIdeal.Val

end
-- ==== Proof.Val.PcA.lean ====
/- The pieces of case A are those of Pieces. -/
module

public import proofs.«01_k».proof.Proof.Val.Pieces
public import proofs.«01_k».proof.Proof.Val.RunA

@[expose] public section

set_option maxRecDepth 16384

noncomputable section

namespace Cert.KernelIdeal.Val

open Cert.KernelIdeal.Gen Cert.Val
open Idealize.ShloMosaic

section
variable {F : FTy → Type} [FloatOps F]
variable (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : cond0_0 i) (hc1 : ¬cond0_1 i) (hc2 : ¬cond0_2 i) (hc3 : ¬cond0_3 i) (hc4 : ¬cond0_4 i) (hc5 : ¬cond0_5 i)
  (x0 : Vec F S256x1536 .bf16) (x1 : Vec F S1536x768 .i8) (x2 : Vec F S1536x12 .f32)

set_option maxHeartbeats 4000000 in
theorem pcA_codes : (kernelRun0_A (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2).2.1
    = codeL arg1 harg1 x0 := by rfl

set_option maxHeartbeats 4000000 in
theorem pcA_lhs : (kernelRun0_A (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2).2.2.2.2.1
    = lhsL arg1 harg1 x0 := by rfl

set_option maxHeartbeats 4000000 in
theorem pcA_scale : (kernelRun0_A (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2).2.2.2.2.2.2.1
    = scaleL arg1 harg1 x0 := by rfl

set_option maxHeartbeats 4000000 in
theorem pcA_w : (kernelRun0_A (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2).2.2.2.1
    = wL arg2 harg2 x1 arg3 harg3 x2 := by rfl

set_option maxHeartbeats 4000000 in
theorem pcA_lines (h0 : ∀ a, (k0_off1 i 0#32) a + S1x128.size a ≤ S66x128.size a) (h1 : ∀ a, (k0_off1 i 1#32) a + S1x128.size a ≤ S66x128.size a) : (kernelRun0_A (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2).2.2.2.2.2.2.2.2.1
    = lineL (k0_off1 i 0#32) (k0_off1 i 1#32) h0 h1 arg10 arg1 harg1 x0 := by rfl

end

end Cert.KernelIdeal.Val
-- ==== Proof.Val.BodyA.lean ====
/- The body at the points of case A: what it leaves in every buffer. -/
module

public import proofs.«01_k».proof.Proof.Val.Data
public import proofs.«01_k».proof.Proof.Val.PcA

@[expose] public section

noncomputable section

namespace Cert.KernelIdeal.Val

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
/-- The body's triple at a point of case A. -/
theorem body_A (c : Dev nD) (t : Fin cfg0.N) (h0 : t.val % 34 = 0) (h1 : ¬(t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)) (h2 : ¬(t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)) (h3 : ¬t.val % 34 = 33) (h4 : ¬t.val % 34 = 33) :
    bodyPre m c t ⊢ wp frame (wpE (defs₀ (F := Ideal)) Variants.none c none) Set.univ (bodyAt0 t) (fun _ => bodyPost m c t) := by
  have hN : t.val < 34 := lt_of_lt_of_eq t.isLt (show cfg0.N = 34 from N_0)
  unfold bodyPre bodyPost bodyAt0
  simp only [before0_0, before0_1, before0_2]
  rw [show (dats m 0 c).owesAt () t.succ = (dats m 0 c).owesAt () t.castSucc from rfl]
  rw [PhiV_fsucc, PhiV_succ, PhiV_castSucc, leaves0, leaves1, leaves2]
  rw [Dat.leavesExact_idle (dats m 0 c) 3 t (idleAt0_3_A t ((hcond0_0 t).mpr h0) (fun h => h1 ((hcond0_1 t).mp h)) (fun h => h2 ((hcond0_2 t).mp h)) (fun h => h3 ((hcond0_3 t).mp h)) (fun h => h4 ((hcond0_4 t).mp h)) (hcond0_5 t)) (noFlush0_3_A t ((hcond0_0 t).mpr h0) (fun h => h1 ((hcond0_1 t).mp h)) (fun h => h2 ((hcond0_2 t).mp h)) (fun h => h3 ((hcond0_3 t).mp h)) (fun h => h4 ((hcond0_4 t).mp h)) (hcond0_5 t))]
  rw [leaves4 m c t (liveAt0_4_A t ((hcond0_0 t).mpr h0) (fun h => h1 ((hcond0_1 t).mp h)) (fun h => h2 ((hcond0_2 t).mp h)) (fun h => h3 ((hcond0_3 t).mp h)) (fun h => h4 ((hcond0_4 t).mp h)) (hcond0_5 t))]
  rw [Dat.leavesExact_idle (dats m 0 c) 5 t (idleAt0_5_A t ((hcond0_0 t).mpr h0) (fun h => h1 ((hcond0_1 t).mp h)) (fun h => h2 ((hcond0_2 t).mp h)) (fun h => h3 ((hcond0_3 t).mp h)) (fun h => h4 ((hcond0_4 t).mp h)) (hcond0_5 t)) (noFlush0_5_A t ((hcond0_0 t).mpr h0) (fun h => h1 ((hcond0_1 t).mp h)) (fun h => h2 ((hcond0_2 t).mp h)) (fun h => h3 ((hcond0_3 t).mp h)) (fun h => h4 ((hcond0_4 t).mp h)) (hcond0_5 t))]
  rw [show iblk m c 0 t = xblk m c t from rfl]
  rw [← blk_pt m c t (by omega)]
  have hz : t.val = 0 := by omega
  obtain rfl : t = pt0 := Fin.ext hz
  rw [PhiV_zero m c _ hz, PhiA0_eq]
  iintro ⟨⟨⟨HS0, HS1, HS2, HS3, HS4, HS5⟩, Hg⟩, Ho, ⟨%e0, H0⟩, ⟨%e1, H1⟩, ⟨%e2, H2⟩, ⟨%e3, H3⟩, ⟨%e4, H4⟩, ⟨%e5, H5⟩⟩
  iapply ((kernelRun0_A (F := Ideal) c (grid0.coords pt0) _ _ _ _ _ _ _ _ _ _ _ _ _ _ _ _ _ _ _ _ _ _ _ _ ((hcond0_0 pt0).mpr h0) (fun h => h1 ((hcond0_1 pt0).mp h)) (fun h => h2 ((hcond0_2 pt0).mp h)) (fun h => h3 ((hcond0_3 pt0).mp h)) (fun h => h4 ((hcond0_4 pt0).mp h)) (hcond0_5 pt0) (xblk m c pt0) (iblk m c 1 pt0) (iblk m c 2 pt0)).2.2.2.2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%fH4, H4⟩, H5, ⟨%fHS0, HS0⟩, ⟨%fHS1, HS1⟩, ⟨%dHS2, HS2⟩, ⟨%fHS3, HS3⟩, ⟨%dHS4, HS4⟩, ⟨%fHS5, HS5⟩⟩
  isplitl [HS0 HS1 HS2 HS3 HS4 HS5 Hg]
  · iexists (lhsSpec (xblk m c pt0)); iexists dHS2; iexists (scaleSpec (xblk m c pt0)); iexists dHS4; iexists (lineSpec (xblk m c pt0) pt0.val (scM0_5.view.read (Elt Ideal) fHS5))
    isplitr
    · ipureintro; intro _
      rw [blk_pt m c pt0 (by omega)]
      exact ⟨fun _ => ⟨rfl, rfl⟩, fun h => absurd h (by omega), lines_step m c 0 _ (fun y hy => absurd hy (by omega))⟩
    isplitl [HS0 HS1 HS2 HS3 HS4 HS5]
    · isplitl [HS0]
      · unfold owns; iexists _; isplitr
        swap; · iexact HS0
        ipureintro; rw [pcA_w (F := Ideal) c (grid0.coords pt0) _ _ _ _ _ _ _ _ _ _ _ _ _ _ _ _ _ _ _ _ _ _ _ _ ((hcond0_0 pt0).mpr h0) (fun h => h1 ((hcond0_1 pt0).mp h)) (fun h => h2 ((hcond0_2 pt0).mp h)) (fun h => h3 ((hcond0_3 pt0).mp h)) (fun h => h4 ((hcond0_4 pt0).mp h)) (hcond0_5 pt0) (xblk m c pt0) (iblk m c 1 pt0) (iblk m c 2 pt0)]; rw [read_w]; unfold wts; rfl
      isplitl [HS1]
      · unfold owns; iexists _; isplitr
        swap; · iexact HS1
        ipureintro; rw [pcA_lhs (F := Ideal) c (grid0.coords pt0) _ _ _ _ _ _ _ _ _ _ _ _ _ _ _ _ _ _ _ _ _ _ _ _ ((hcond0_0 pt0).mpr h0) (fun h => h1 ((hcond0_1 pt0).mp h)) (fun h => h2 ((hcond0_2 pt0).mp h)) (fun h => h3 ((hcond0_3 pt0).mp h)) (fun h => h4 ((hcond0_4 pt0).mp h)) (hcond0_5 pt0) (xblk m c pt0) (iblk m c 1 pt0) (iblk m c 2 pt0)]; rw [read_lhs]
      isplitl [HS2]
      · iexact HS2
      isplitl [HS3]
      · unfold owns; iexists _; isplitr
        swap; · iexact HS3
        ipureintro; rw [pcA_scale (F := Ideal) c (grid0.coords pt0) _ _ _ _ _ _ _ _ _ _ _ _ _ _ _ _ _ _ _ _ _ _ _ _ ((hcond0_0 pt0).mpr h0) (fun h => h1 ((hcond0_1 pt0).mp h)) (fun h => h2 ((hcond0_2 pt0).mp h)) (fun h => h3 ((hcond0_3 pt0).mp h)) (fun h => h4 ((hcond0_4 pt0).mp h)) (hcond0_5 pt0) (xblk m c pt0) (iblk m c 1 pt0) (iblk m c 2 pt0)]; rw [read_scale]
      isplitl [HS4]
      · iexact HS4
      unfold owns; iexists _; isplitr
      swap; · iexact HS5
      ipureintro; rw [pcA_lines (F := Ideal) c (grid0.coords pt0) _ _ _ _ _ _ _ _ _ _ _ _ _ _ _ _ _ _ _ _ _ _ _ _ ((hcond0_0 pt0).mpr h0) (fun h => h1 ((hcond0_1 pt0).mp h)) (fun h => h2 ((hcond0_2 pt0).mp h)) (fun h => h3 ((hcond0_3 pt0).mp h)) (fun h => h4 ((hcond0_4 pt0).mp h)) (hcond0_5 pt0) (xblk m c pt0) (iblk m c 1 pt0) (iblk m c 2 pt0) (k0_off1_inb (grid0.coords pt0) ((hcond0_0 pt0).mpr h0) 0) (k0_off1_inb (grid0.coords pt0) ((hcond0_0 pt0).mpr h0) 1)]; exact read_lines _ _ _ _ _ _ pt0.val _ _ (off1_0 pt0) (off1_1 pt0) _ _
    iexact Hg
  isplitl [Ho]; · iexact Ho
  isplitl [H0]
  · iexact H0
  isplitl [H1]
  · iexact H1
  isplitl [H2]
  · iexact H2
  isplitl [H3]
  · iexists _; iexact H3
  isplitl [H4]
  · unfold owns; iexists _; isplitr
    swap; · iexact H4
    ipureintro; rw [pcA_codes (F := Ideal) c (grid0.coords pt0) _ _ _ _ _ _ _ _ _ _ _ _ _ _ _ _ _ _ _ _ _ _ _ _ ((hcond0_0 pt0).mpr h0) (fun h => h1 ((hcond0_1 pt0).mp h)) (fun h => h2 ((hcond0_2 pt0).mp h)) (fun h => h3 ((hcond0_3 pt0).mp h)) (fun h => h4 ((hcond0_4 pt0).mp h)) (hcond0_5 pt0) (xblk m c pt0) (iblk m c 1 pt0) (iblk m c 2 pt0)]; rw [read_codes]
  iexists _; iexact H5

end Cert.KernelIdeal.Val
-- ==== Proof.Val.RunB.lean ====
/- The body's run in case B of its branch conditions: the pieces every buffer it stores into ends with. -/
module

public import proofs.«01_k».proof.Proof.Val.Runs

@[expose] public section

-- membership in a rectangle of production extents (`View.cover_of_tiled`): the elaborator's structural look
-- recurses once per coordinate of the long axes
set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3340000 in
/-- What the body's stores leave in each output's staging memref, as pieces (last first) IN CASE B (`scf.if` 0 not taken, `scf.if` 1 taken, `scf.if` 2 not taken, `scf.if` 3 not taken, `scf.if` 4 not taken, `scf.if` 5 not taken: points 1, 3, … 31: 16 of 34), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : cond0_1 i) (hc2 : ¬cond0_2 i) (hc3 : ¬cond0_3 i) (hc4 : ¬cond0_4 i) (hc5 : ¬cond0_5 i)
    (x0 : Vec F S256x1536 .bf16) (x1 : Vec F S1536x768 .i8) (x2 : Vec F S1536x12 .f32) (xs0 : Vec F S1536x1536 .bf16) (xs1 : Vec F S256x1536 .bf16) (xs3 : Vec F S256x128 .f32) :
    Σ' (L3 : List (View.Piece (Elt F) S256x1536 .bf16)), Σ' (L4 : List (View.Piece (Elt F) S256x1536 .i8)), Σ' (L5 : List (View.Piece (Elt F) S6x1408 .f32)), Σ' (LS0 : List (View.Piece (Elt F) S1536x1536 .bf16)), Σ' (LS1 : List (View.Piece (Elt F) S256x1536 .bf16)), Σ' (LS2 : List (View.Piece (Elt F) S256x1536 .bf16)), Σ' (LS3 : List (View.Piece (Elt F) S256x128 .f32)), Σ' (LS4 : List (View.Piece (Elt F) S256x128 .f32)), { LS5 : List (View.Piece (Elt F) S66x128 .f32) //
      ∀ (xi5 : Vec F S6x1408 .f32) (xs5 : Vec F S66x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ owns (c : Thread nD τ) arg7 fullShare xs0 ∗ owns (c : Thread nD τ) arg8 fullShare xs1 ∗ (∃ d, owns (c : Thread nD τ) arg9 fullShare d) ∗ owns (c : Thread nD τ) arg10 fullShare xs3 ∗ (∃ d, owns (c : Thread nD τ) arg11 fullShare d) ∗ owns (c : Thread nD τ) arg12 fullShare xs5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ owns (c : Thread nD τ) arg7 fullShare xs0 ∗ owns (c : Thread nD τ) arg8 fullShare xs1 ∗ (∃ f, arg9.view.loc (c : Thread nD τ) ↦[arg9.view.set]{fullShare} arg9.view.writes (Elt F) f LS2) ∗ owns (c : Thread nD τ) arg10 fullShare xs3 ∗ (∃ f, arg11.view.loc (c : Thread nD τ) ↦[arg11.view.set]{fullShare} arg11.view.writes (Elt F) f LS4) ∗ (arg12.view.loc (c : Thread nD τ) ↦[arg12.view.set]{fullShare} arg12.view.writes (Elt F) (harg12.unread xs5) LS5)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K } := by
  refine ⟨?_, ?_, [], [], [], ?_, [], ?_, ?_, fun xi5 xs5 E K => ?run⟩
  case run =>
    simp only [cc0_w4a4_oproj_eq_skeleton]; unfold cc0_w4a4_oproj_skel
    simp only [k0_part144_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, ⟨%fs1, %hfs1, HS1⟩, ⟨%ds2, %fs2, -, HS2⟩, ⟨%fs3, %hfs3, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg6.eq_unread hf5; obtain rfl := harg7.eq_unread hfs0; obtain rfl := harg8.eq_unread hfs1; obtain rfl := harg10.eq_unread hfs3; obtain rfl := harg12.eq_unread hfs5
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]
    · iexists _; isplitr; · ipureintro; exact harg6.read_unread _
      iexact H5
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    isplitl [HS3]
    · iexists _; isplitr; · ipureintro; exact harg10.read_unread _
      iexact HS3
    isplitl [HS4]; · iexists _; iexact HS4
    iexact HS5

end Cert.KernelIdeal.Val

end
-- ==== Proof.Val.PcB.lean ====
/- The pieces of case B are those of Pieces. -/
module

public import proofs.«01_k».proof.Proof.Val.Pieces
public import proofs.«01_k».proof.Proof.Val.RunB

@[expose] public section

set_option maxRecDepth 16384

noncomputable section

namespace Cert.KernelIdeal.Val

open Cert.KernelIdeal.Gen Cert.Val
open Idealize.ShloMosaic

section
variable {F : FTy → Type} [FloatOps F]
variable (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : cond0_1 i) (hc2 : ¬cond0_2 i) (hc3 : ¬cond0_3 i) (hc4 : ¬cond0_4 i) (hc5 : ¬cond0_5 i)
  (x0 : Vec F S256x1536 .bf16) (x1 : Vec F S1536x768 .i8) (x2 : Vec F S1536x12 .f32) (xs0 : Vec F S1536x1536 .bf16) (xs1 : Vec F S256x1536 .bf16) (xs3 : Vec F S256x128 .f32)

set_option maxHeartbeats 4000000 in
theorem pcB_codes : (kernelRun0_B (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs1 xs3).2.1
    = codeL arg1 harg1 x0 := by rfl

set_option maxHeartbeats 4000000 in
theorem pcB_lhs : (kernelRun0_B (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs1 xs3).2.2.2.2.2.1
    = lhsL arg1 harg1 x0 := by rfl

set_option maxHeartbeats 4000000 in
theorem pcB_scale : (kernelRun0_B (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs1 xs3).2.2.2.2.2.2.2.1
    = scaleL arg1 harg1 x0 := by rfl

set_option maxHeartbeats 4000000 in
theorem pcB_out : (kernelRun0_B (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs1 xs3).1
    = outL arg7 harg7 xs0 arg8 harg8 xs1 arg10 harg10 xs3 := by rfl

set_option maxHeartbeats 4000000 in
theorem pcB_lines (h0 : ∀ a, (k0_off2 i 0#32) a + S1x128.size a ≤ S66x128.size a) (h1 : ∀ a, (k0_off2 i 1#32) a + S1x128.size a ≤ S66x128.size a) : (kernelRun0_B (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs1 xs3).2.2.2.2.2.2.2.2.1
    = lineL (k0_off2 i 0#32) (k0_off2 i 1#32) h0 h1 arg11 arg1 harg1 x0 := by rfl

end

end Cert.KernelIdeal.Val
-- ==== Proof.Val.BodyB.lean ====
/- The body at the points of case B: what it leaves in every buffer. -/
module

public import proofs.«01_k».proof.Proof.Val.Data
public import proofs.«01_k».proof.Proof.Val.PcB

@[expose] public section

noncomputable section

namespace Cert.KernelIdeal.Val

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
/-- The body's triple at a point of case B. -/
theorem body_B (c : Dev nD) (t : Fin cfg0.N) (h0 : ¬t.val % 34 = 0) (h1 : (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)) (h2 : ¬(t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)) (h3 : ¬t.val % 34 = 33) (h4 : ¬t.val % 34 = 33) :
    bodyPre m c t ⊢ wp frame (wpE (defs₀ (F := Ideal)) Variants.none c none) Set.univ (bodyAt0 t) (fun _ => bodyPost m c t) := by
  have hN : t.val < 34 := lt_of_lt_of_eq t.isLt (show cfg0.N = 34 from N_0)
  unfold bodyPre bodyPost bodyAt0
  simp only [before0_0, before0_1, before0_2]
  rw [show (dats m 0 c).owesAt () t.succ = (dats m 0 c).owesAt () t.castSucc from rfl]
  rw [PhiV_fsucc, PhiV_succ, PhiV_castSucc, leaves0, leaves1, leaves2]
  rw [leaves3 m c t (liveAt0_3_B t (fun h => h0 ((hcond0_0 t).mp h)) ((hcond0_1 t).mpr h1) (fun h => h2 ((hcond0_2 t).mp h)) (fun h => h3 ((hcond0_3 t).mp h)) (fun h => h4 ((hcond0_4 t).mp h)) (hcond0_5 t))]
  rw [leaves4 m c t (liveAt0_4_B t (fun h => h0 ((hcond0_0 t).mp h)) ((hcond0_1 t).mpr h1) (fun h => h2 ((hcond0_2 t).mp h)) (fun h => h3 ((hcond0_3 t).mp h)) (fun h => h4 ((hcond0_4 t).mp h)) (hcond0_5 t))]
  rw [Dat.leavesExact_idle (dats m 0 c) 5 t (idleAt0_5_B t (fun h => h0 ((hcond0_0 t).mp h)) ((hcond0_1 t).mpr h1) (fun h => h2 ((hcond0_2 t).mp h)) (fun h => h3 ((hcond0_3 t).mp h)) (fun h => h4 ((hcond0_4 t).mp h)) (hcond0_5 t)) (noFlush0_5_B t (fun h => h0 ((hcond0_0 t).mp h)) ((hcond0_1 t).mpr h1) (fun h => h2 ((hcond0_2 t).mp h)) (fun h => h3 ((hcond0_3 t).mp h)) (fun h => h4 ((hcond0_4 t).mp h)) (hcond0_5 t))]
  rw [show iblk m c 0 t = xblk m c t from rfl]
  rw [← blk_pt m c t (by omega)]
  rw [PhiV_pos m c _ (show t.val ≠ 0 by omega)]
  iintro ⟨⟨%d1, %d2, %d3, %d4, %d5, %hst, ⟨HS0, HS1, HS2, HS3, HS4, HS5⟩, Hg⟩, Ho, ⟨%e0, H0⟩, ⟨%e1, H1⟩, ⟨%e2, H2⟩, ⟨%e3, H3⟩, ⟨%e4, H4⟩, ⟨%e5, H5⟩⟩
  have hs := hst (by omega)
  obtain ⟨e1', e3'⟩ := hs.1 (by omega)
  iapply ((kernelRun0_B (F := Ideal) c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (xblk m c t) (iblk m c 1 t) (iblk m c 2 t) (wts m c) d1 d3).2.2.2.2.2.2.2.2.2 _ _ Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [HS0]; · iexact HS0
  isplitl [HS1]; · iexact HS1
  isplitl [HS2]; · iexists _; iexact HS2
  isplitl [HS3]; · iexact HS3
  isplitl [HS4]; · iexists _; iexact HS4
  isplitl [HS5]; · iexact HS5
  iintro ⟨H0, H1, H2, ⟨%fH3, H3⟩, ⟨%fH4, H4⟩, H5, HS0, HS1, ⟨%fHS2, HS2⟩, HS3, ⟨%fHS4, HS4⟩, HS5⟩
  isplitl [HS0 HS1 HS2 HS3 HS4 HS5 Hg]
  · iexists d1; iexists (lhsSpec (xblk m c t)); iexists d3; iexists (scaleSpec (xblk m c t)); iexists (lineSpec (xblk m c t) t.val d5)
    isplitr
    · ipureintro; intro _
      rw [blk_pt m c t (by omega)]
      exact ⟨fun h => absurd h (by omega), fun _ => ⟨rfl, rfl⟩, lines_step m c t.val _ (fun y hy => hs.2.2 y (by omega))⟩
    isplitl [HS0 HS1 HS2 HS3 HS4 HS5]
    · isplitl [HS0]
      · iexact HS0
      isplitl [HS1]
      · iexact HS1
      isplitl [HS2]
      · unfold owns; iexists _; isplitr
        swap; · iexact HS2
        ipureintro; rw [pcB_lhs (F := Ideal) c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (xblk m c t) (iblk m c 1 t) (iblk m c 2 t) (wts m c) d1 d3]; rw [read_lhs]
      isplitl [HS3]
      · iexact HS3
      isplitl [HS4]
      · unfold owns; iexists _; isplitr
        swap; · iexact HS4
        ipureintro; rw [pcB_scale (F := Ideal) c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (xblk m c t) (iblk m c 1 t) (iblk m c 2 t) (wts m c) d1 d3]; rw [read_scale]
      unfold owns; iexists _; isplitr
      swap; · iexact HS5
      ipureintro; rw [pcB_lines (F := Ideal) c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (xblk m c t) (iblk m c 1 t) (iblk m c 2 t) (wts m c) d1 d3 (k0_off2_inb (grid0.coords t) ((hcond0_1 t).mpr h1) 0) (k0_off2_inb (grid0.coords t) ((hcond0_1 t).mpr h1) 1)]; exact (read_lines _ _ _ _ _ _ t.val _ _ (off2_0 t) (off2_1 t) _ _).trans (congrArg (lineSpec _ t.val) (Memref.IsWhole.read_unread (Memref.isWhole_whole cc0_scratch5) d5))
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; rw [pcB_out (F := Ideal) c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (xblk m c t) (iblk m c 1 t) (iblk m c 2 t) (wts m c) d1 d3]; rw [read_out]; unfold outB; rw [e1', e3']
  isplitl [H4]
  · unfold owns; iexists _; isplitr
    swap; · iexact H4
    ipureintro; rw [pcB_codes (F := Ideal) c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (hcond0_5 t) (xblk m c t) (iblk m c 1 t) (iblk m c 2 t) (wts m c) d1 d3]; rw [read_codes]
  iexists _; iexact H5

end Cert.KernelIdeal.Val
-- ==== Proof.Val.RunC.lean ====
/- The body's run in case C of its branch conditions: the pieces every buffer it stores into ends with. -/
module

public import proofs.«01_k».proof.Proof.Val.Runs

@[expose] public section

-- membership in a rectangle of production extents (`View.cover_of_tiled`): the elaborator's structural look
-- recurses once per coordinate of the long axes
set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3340000 in
/-- What the body's stores leave in each output's staging memref, as pieces (last first) IN CASE C (`scf.if` 0 not taken, `scf.if` 1 not taken, `scf.if` 2 taken, `scf.if` 3 not taken, `scf.if` 4 not taken, `scf.if` 5 not taken: points 2, 4, … 32: 16 of 34), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : ¬cond0_1 i) (hc2 : cond0_2 i) (hc3 : ¬cond0_3 i) (hc4 : ¬cond0_4 i) (hc5 : ¬cond0_5 i)
    (x0 : Vec F S256x1536 .bf16) (x1 : Vec F S1536x768 .i8) (x2 : Vec F S1536x12 .f32) (xs0 : Vec F S1536x1536 .bf16) (xs2 : Vec F S256x1536 .bf16) (xs4 : Vec F S256x128 .f32) :
    Σ' (L3 : List (View.Piece (Elt F) S256x1536 .bf16)), Σ' (L4 : List (View.Piece (Elt F) S256x1536 .i8)), Σ' (L5 : List (View.Piece (Elt F) S6x1408 .f32)), Σ' (LS0 : List (View.Piece (Elt F) S1536x1536 .bf16)), Σ' (LS1 : List (View.Piece (Elt F) S256x1536 .bf16)), Σ' (LS2 : List (View.Piece (Elt F) S256x1536 .bf16)), Σ' (LS3 : List (View.Piece (Elt F) S256x128 .f32)), Σ' (LS4 : List (View.Piece (Elt F) S256x128 .f32)), { LS5 : List (View.Piece (Elt F) S66x128 .f32) //
      ∀ (xi5 : Vec F S6x1408 .f32) (xs5 : Vec F S66x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ owns (c : Thread nD τ) arg7 fullShare xs0 ∗ (∃ d, owns (c : Thread nD τ) arg8 fullShare d) ∗ owns (c : Thread nD τ) arg9 fullShare xs2 ∗ (∃ d, owns (c : Thread nD τ) arg10 fullShare d) ∗ owns (c : Thread nD τ) arg11 fullShare xs4 ∗ owns (c : Thread nD τ) arg12 fullShare xs5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ owns (c : Thread nD τ) arg7 fullShare xs0 ∗ (∃ f, arg8.view.loc (c : Thread nD τ) ↦[arg8.view.set]{fullShare} arg8.view.writes (Elt F) f LS1) ∗ owns (c : Thread nD τ) arg9 fullShare xs2 ∗ (∃ f, arg10.view.loc (c : Thread nD τ) ↦[arg10.view.set]{fullShare} arg10.view.writes (Elt F) f LS3) ∗ owns (c : Thread nD τ) arg11 fullShare xs4 ∗ (arg12.view.loc (c : Thread nD τ) ↦[arg12.view.set]{fullShare} arg12.view.writes (Elt F) (harg12.unread xs5) LS5)) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K } := by
  refine ⟨?_, ?_, [], [], ?_, [], ?_, [], ?_, fun xi5 xs5 E K => ?run⟩
  case run =>
    simp only [cc0_w4a4_oproj_eq_skeleton]; unfold cc0_w4a4_oproj_skel
    simp only [k0_part204_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, ⟨%ds1, %fs1, -, HS1⟩, ⟨%fs2, %hfs2, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg6.eq_unread hf5; obtain rfl := harg7.eq_unread hfs0; obtain rfl := harg9.eq_unread hfs2; obtain rfl := harg11.eq_unread hfs4; obtain rfl := harg12.eq_unread hfs5
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]
    · iexists _; isplitr; · ipureintro; exact harg6.read_unread _
      iexact H5
    isplitl [HS0]
    · iexists _; isplitr; · ipureintro; exact harg7.read_unread _
      iexact HS0
    isplitl [HS1]; · iexists _; iexact HS1
    isplitl [HS2]
    · iexists _; isplitr; · ipureintro; exact harg9.read_unread _
      iexact HS2
    isplitl [HS3]; · iexists _; iexact HS3
    isplitl [HS4]
    · iexists _; isplitr; · ipureintro; exact harg11.read_unread _
      iexact HS4
    iexact HS5

end Cert.KernelIdeal.Val

end
-- ==== Proof.Val.PcC.lean ====
/- The pieces of case C are those of Pieces. -/
module

public import proofs.«01_k».proof.Proof.Val.Pieces
public import proofs.«01_k».proof.Proof.Val.RunC

@[expose] public section

set_option maxRecDepth 16384

noncomputable section

namespace Cert.KernelIdeal.Val

open Cert.KernelIdeal.Gen Cert.Val
open Idealize.ShloMosaic

section
variable {F : FTy → Type} [FloatOps F]
variable (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : ¬cond0_1 i) (hc2 : cond0_2 i) (hc3 : ¬cond0_3 i) (hc4 : ¬cond0_4 i) (hc5 : ¬cond0_5 i)
  (x0 : Vec F S256x1536 .bf16) (x1 : Vec F S1536x768 .i8) (x2 : Vec F S1536x12 .f32) (xs0 : Vec F S1536x1536 .bf16) (xs2 : Vec F S256x1536 .bf16) (xs4 : Vec F S256x128 .f32)

set_option maxHeartbeats 4000000 in
theorem pcC_codes : (kernelRun0_C (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs2 xs4).2.1
    = codeL arg1 harg1 x0 := by rfl

set_option maxHeartbeats 4000000 in
theorem pcC_lhs : (kernelRun0_C (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs2 xs4).2.2.2.2.1
    = lhsL arg1 harg1 x0 := by rfl

set_option maxHeartbeats 4000000 in
theorem pcC_scale : (kernelRun0_C (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs2 xs4).2.2.2.2.2.2.1
    = scaleL arg1 harg1 x0 := by rfl

set_option maxHeartbeats 4000000 in
theorem pcC_out : (kernelRun0_C (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs2 xs4).1
    = outL arg7 harg7 xs0 arg9 harg9 xs2 arg11 harg11 xs4 := by rfl

set_option maxHeartbeats 4000000 in
theorem pcC_lines (h0 : ∀ a, (k0_off3 i 0#32) a + S1x128.size a ≤ S66x128.size a) (h1 : ∀ a, (k0_off3 i 1#32) a + S1x128.size a ≤ S66x128.size a) : (kernelRun0_C (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xs0 xs2 xs4).2.2.2.2.2.2.2.2.1
    = lineL (k0_off3 i 0#32) (k0_off3 i 1#32) h0 h1 arg10 arg1 harg1 x0 := by rfl

end

end Cert.KernelIdeal.Val
-- ==== Proof.Val.BodyC.lean ====
/- The body at the points of case C: what it leaves in every buffer. -/
module

public import proofs.«01_k».proof.Proof.Val.Data
public import proofs.«01_k».proof.Proof.Val.PcC

@[expose] public section

noncomputable section

namespace Cert.KernelIdeal.Val

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
/-- The body's triple at a point of case C. -/
theorem body_C (c : Dev nD) (t : Fin cfg0.N) (h0 : ¬t.val % 34 = 0) (h1 : ¬(t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)) (h2 : (t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)) (h3 : ¬t.val % 34 = 33) (h4 : ¬t.val % 34 = 33) :
    bodyPre m c t ⊢ wp frame (wpE (defs₀ (F := Ideal)) Variants.none c none) Set.univ (bodyAt0 t) (fun _ => bodyPost m c t) := by
  have hN : t.val < 34 := lt_of_lt_of_eq t.isLt (show cfg0.N = 34 from N_0)
  unfold bodyPre bodyPost bodyAt0
  simp only [before0_0, before0_1, before0_2]
  rw [show (dats m 0 c).owesAt () t.succ = (dats m 0 c).owesAt () t.castSucc from rfl]
  rw [PhiV_fsucc, PhiV_succ, PhiV_castSucc, leaves0, leaves1, leaves2]
  rw [leaves3 m c t (liveAt0_3_C t (fun h => h0 ((hcond0_0 t).mp h)) (fun h => h1 ((hcond0_1 t).mp h)) ((hcond0_2 t).mpr h2) (fun h => h3 ((hcond0_3 t).mp h)) (fun h => h4 ((hcond0_4 t).mp h)) (hcond0_5 t))]
  rw [leaves4 m c t (liveAt0_4_C t (fun h => h0 ((hcond0_0 t).mp h)) (fun h => h1 ((hcond0_1 t).mp h)) ((hcond0_2 t).mpr h2) (fun h => h3 ((hcond0_3 t).mp h)) (fun h => h4 ((hcond0_4 t).mp h)) (hcond0_5 t))]
  rw [Dat.leavesExact_idle (dats m 0 c) 5 t (idleAt0_5_C t (fun h => h0 ((hcond0_0 t).mp h)) (fun h => h1 ((hcond0_1 t).mp h)) ((hcond0_2 t).mpr h2) (fun h => h3 ((hcond0_3 t).mp h)) (fun h => h4 ((hcond0_4 t).mp h)) (hcond0_5 t)) (noFlush0_5_C t (fun h => h0 ((hcond0_0 t).mp h)) (fun h => h1 ((hcond0_1 t).mp h)) ((hcond0_2 t).mpr h2) (fun h => h3 ((hcond0_3 t).mp h)) (fun h => h4 ((hcond0_4 t).mp h)) (hcond0_5 t))]
  rw [show iblk m c 0 t = xblk m c t from rfl]
  rw [← blk_pt m c t (by omega)]
  rw [PhiV_pos m c _ (show t.val ≠ 0 by omega)]
  iintro ⟨⟨%d1, %d2, %d3, %d4, %d5, %hst, ⟨HS0, HS1, HS2, HS3, HS4, HS5⟩, Hg⟩, Ho, ⟨%e0, H0⟩, ⟨%e1, H1⟩, ⟨%e2, H2⟩, ⟨%e3, H3⟩, ⟨%e4, H4⟩, ⟨%e5, H5⟩⟩
  have hs := hst (by omega)
  obtain ⟨e2', e4'⟩ := hs.2.1 (by omega)
  iapply ((kernelRun0_C (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (xblk m c t) (iblk m c 1 t) (iblk m c 2 t) (wts m c) d2 d4).2.2.2.2.2.2.2.2.2 _ _ Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [HS0]; · iexact HS0
  isplitl [HS1]; · iexists _; iexact HS1
  isplitl [HS2]; · iexact HS2
  isplitl [HS3]; · iexists _; iexact HS3
  isplitl [HS4]; · iexact HS4
  isplitl [HS5]; · iexact HS5
  iintro ⟨H0, H1, H2, ⟨%fH3, H3⟩, ⟨%fH4, H4⟩, H5, HS0, ⟨%fHS1, HS1⟩, HS2, ⟨%fHS3, HS3⟩, HS4, HS5⟩
  isplitl [HS0 HS1 HS2 HS3 HS4 HS5 Hg]
  · iexists (lhsSpec (xblk m c t)); iexists d2; iexists (scaleSpec (xblk m c t)); iexists d4; iexists (lineSpec (xblk m c t) t.val d5)
    isplitr
    · ipureintro; intro _
      rw [blk_pt m c t (by omega)]
      exact ⟨fun _ => ⟨rfl, rfl⟩, fun h => absurd h (by omega), lines_step m c t.val _ (fun y hy => hs.2.2 y (by omega))⟩
    isplitl [HS0 HS1 HS2 HS3 HS4 HS5]
    · isplitl [HS0]
      · iexact HS0
      isplitl [HS1]
      · unfold owns; iexists _; isplitr
        swap; · iexact HS1
        ipureintro; rw [pcC_lhs (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (xblk m c t) (iblk m c 1 t) (iblk m c 2 t) (wts m c) d2 d4]; rw [read_lhs]
      isplitl [HS2]
      · iexact HS2
      isplitl [HS3]
      · unfold owns; iexists _; isplitr
        swap; · iexact HS3
        ipureintro; rw [pcC_scale (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (xblk m c t) (iblk m c 1 t) (iblk m c 2 t) (wts m c) d2 d4]; rw [read_scale]
      isplitl [HS4]
      · iexact HS4
      unfold owns; iexists _; isplitr
      swap; · iexact HS5
      ipureintro; rw [pcC_lines (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (xblk m c t) (iblk m c 1 t) (iblk m c 2 t) (wts m c) d2 d4 (k0_off3_inb (grid0.coords t) ((hcond0_2 t).mpr h2) 0) (k0_off3_inb (grid0.coords t) ((hcond0_2 t).mpr h2) 1)]; exact (read_lines _ _ _ _ _ _ t.val _ _ (off3_0 t) (off3_1 t) _ _).trans (congrArg (lineSpec _ t.val) (Memref.IsWhole.read_unread (Memref.isWhole_whole cc0_scratch5) d5))
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; rw [pcC_out (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (xblk m c t) (iblk m c 1 t) (iblk m c 2 t) (wts m c) d2 d4]; rw [read_out]; unfold outB; rw [e2', e4']
  isplitl [H4]
  · unfold owns; iexists _; isplitr
    swap; · iexact H4
    ipureintro; rw [pcC_codes (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hcond0_5 t) (xblk m c t) (iblk m c 1 t) (iblk m c 2 t) (wts m c) d2 d4]; rw [read_codes]
  iexists _; iexact H5

end Cert.KernelIdeal.Val
-- ==== Proof.Val.RunD.lean ====
/- The body's run in case D of its branch conditions: the pieces every buffer it stores into ends with. -/
module

public import proofs.«01_k».proof.Proof.Val.Runs

@[expose] public section

-- membership in a rectangle of production extents (`View.cover_of_tiled`): the elaborator's structural look
-- recurses once per coordinate of the long axes
set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE D (`scf.if` 0 not taken, `scf.if` 1 not taken, `scf.if` 2 not taken, `scf.if` 3 taken, `scf.if` 4 taken, `scf.if` 5 not taken: points 33), WITH the
    proof that on whole staging memrefs — the inputs' at their contents, the outputs it reads before covering (4) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : ¬cond0_1 i) (hc2 : ¬cond0_2 i) (hc3 : cond0_3 i) (hc4 : cond0_4 i) (hc5 : ¬cond0_5 i)
    (x0 : Vec F S256x1536 .bf16) (x1 : Vec F S1536x768 .i8) (x2 : Vec F S1536x12 .f32) (xo4 : Vec F S256x1536 .i8) (xs0 : Vec F S1536x1536 .bf16) (xs1 : Vec F S256x1536 .bf16) (xs2 : Vec F S256x1536 .bf16) (xs3 : Vec F S256x128 .f32) (xs4 : Vec F S256x128 .f32) (xs5 : Vec F S66x128 .f32) :
    Σ' (L3 : List (View.Piece (Elt F) S256x1536 .bf16)), Σ' (L4 : List (View.Piece (Elt F) S256x1536 .i8)), Σ' (L5 : List (View.Piece (Elt F) S6x1408 .f32)), Σ' (LS0 : List (View.Piece (Elt F) S1536x1536 .bf16)), Σ' (LS1 : List (View.Piece (Elt F) S256x1536 .bf16)), Σ' (LS2 : List (View.Piece (Elt F) S256x1536 .bf16)), Σ' (LS3 : List (View.Piece (Elt F) S256x128 .f32)), Σ' (LS4 : List (View.Piece (Elt F) S256x128 .f32)), { LS5 : List (View.Piece (Elt F) S66x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xo4 ∗ (∃ f, arg6.view.loc (c : Thread nD τ) ↦[arg6.view.set]{fullShare} arg6.view.writes (Elt F) f L5) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5) -∗ K ⟨⟩))
          ⊢ wp frame (wpE (defs₀ (F := F)) Variants.none c none) E (cc0_w4a4_oproj i arg1 harg1 arg2 harg2 arg3 harg3 arg4 harg4 arg5 harg5 arg6 harg6 arg7 harg7 arg8 harg8 arg9 harg9 arg10 harg10 arg11 harg11 arg12 harg12) K } := by
  refine ⟨?_, [], ?_, [], [], [], [], [], [], fun E K => ?run⟩
  case run =>
    simp only [cc0_w4a4_oproj_eq_skeleton]; unfold cc0_w4a4_oproj_skel
    simp only [k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg5.eq_unread hf4; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; isplitr; · ipureintro; exact harg10.read_unread _
      iexact HS3
    isplitl [HS4]
    · iexists _; isplitr; · ipureintro; exact harg11.read_unread _
      iexact HS4
    iexists _; isplitr; · ipureintro; exact harg12.read_unread _
    iexact HS5

end Cert.KernelIdeal.Val

end
-- ==== Proof.Val.PcD.lean ====
/- The pieces of case D are those of Pieces. -/
module

public import proofs.«01_k».proof.Proof.Val.Pieces
public import proofs.«01_k».proof.Proof.Val.RunD

@[expose] public section

set_option maxRecDepth 16384

noncomputable section

namespace Cert.KernelIdeal.Val

open Cert.KernelIdeal.Gen Cert.Val
open Idealize.ShloMosaic

section
variable {F : FTy → Type} [FloatOps F]
variable (c : Dev nD) (i : grid0.Coords) (arg1 : Memref sig .tc .vmem S256x1536 .bf16) (harg1 : arg1.IsWhole) (arg2 : Memref sig .tc .vmem S1536x768 .i8) (harg2 : arg2.IsWhole) (arg3 : Memref sig .tc .vmem S1536x12 .f32) (harg3 : arg3.IsWhole) (arg4 : Memref sig .tc .vmem S256x1536 .bf16) (harg4 : arg4.IsWhole) (arg5 : Memref sig .tc .vmem S256x1536 .i8) (harg5 : arg5.IsWhole) (arg6 : Memref sig .tc .vmem S6x1408 .f32) (harg6 : arg6.IsWhole) (arg7 : Memref sig .tc .vmem S1536x1536 .bf16) (harg7 : arg7.IsWhole) (arg8 : Memref sig .tc .vmem S256x1536 .bf16) (harg8 : arg8.IsWhole) (arg9 : Memref sig .tc .vmem S256x1536 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S66x128 .f32) (harg12 : arg12.IsWhole) (hc0 : ¬cond0_0 i) (hc1 : ¬cond0_1 i) (hc2 : ¬cond0_2 i) (hc3 : cond0_3 i) (hc4 : cond0_4 i) (hc5 : ¬cond0_5 i)
  (x0 : Vec F S256x1536 .bf16) (x1 : Vec F S1536x768 .i8) (x2 : Vec F S1536x12 .f32) (xo4 : Vec F S256x1536 .i8) (xs0 : Vec F S1536x1536 .bf16) (xs1 : Vec F S256x1536 .bf16) (xs2 : Vec F S256x1536 .bf16) (xs3 : Vec F S256x128 .f32) (xs4 : Vec F S256x128 .f32) (xs5 : Vec F S66x128 .f32)

set_option maxHeartbeats 4000000 in
theorem pcD_out : (kernelRun0_D (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xo4 xs0 xs1 xs2 xs3 xs4 xs5).1
    = outL arg7 harg7 xs0 arg8 harg8 xs1 arg10 harg10 xs3 := by rfl

set_option maxHeartbeats 4000000 in
theorem pcD_xs : (kernelRun0_D (F := F) c i arg1 harg1 arg2 harg2 arg3 harg3 arg4 harg4 arg5 harg5 arg6 harg6 arg7 harg7 arg8 harg8 arg9 harg9 arg10 harg10 arg11 harg11 arg12 harg12 hc0 hc1 hc2 hc3 hc4 hc5 x0 x1 x2 xo4 xs0 xs1 xs2 xs3 xs4 xs5).2.2.1
    = xsL arg12 harg12 xs5 := by rfl

end

end Cert.KernelIdeal.Val
-- ==== Proof.Val.BodyD.lean ====
/- The body at the points of case D: what it leaves in every buffer. -/
module

public import proofs.«01_k».proof.Proof.Val.Data
public import proofs.«01_k».proof.Proof.Val.PcD

@[expose] public section

noncomputable section

namespace Cert.KernelIdeal.Val

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
/-- The body's triple at a point of case D. -/
theorem body_D (c : Dev nD) (t : Fin cfg0.N) (h0 : ¬t.val % 34 = 0) (h1 : ¬(t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)) (h2 : ¬(t.val % 34 = 2 ∨ t.val % 34 = 4 ∨ t.val % 34 = 6 ∨ t.val % 34 = 8 ∨ t.val % 34 = 10 ∨ t.val % 34 = 12 ∨ t.val % 34 = 14 ∨ t.val % 34 = 16 ∨ t.val % 34 = 18 ∨ t.val % 34 = 20 ∨ t.val % 34 = 22 ∨ t.val % 34 = 24 ∨ t.val % 34 = 26 ∨ t.val % 34 = 28 ∨ t.val % 34 = 30 ∨ t.val % 34 = 32)) (h3 : t.val % 34 = 33) (h4 : t.val % 34 = 33) :
    bodyPre m c t ⊢ wp frame (wpE (defs₀ (F := Ideal)) Variants.none c none) Set.univ (bodyAt0 t) (fun _ => bodyPost m c t) := by
  have hN : t.val < 34 := lt_of_lt_of_eq t.isLt (show cfg0.N = 34 from N_0)
  unfold bodyPre bodyPost bodyAt0
  simp only [before0_0, before0_1, before0_2]
  have hb4 : ∀ d, (dats m 0 c).before 4 t d = codeSpec (blk m c t.val) := fun d => by
    rw [Dat.before_out_traj _ 4 rfl (fun _ _ => rfl) (hcarry0_4 m c) t.val t rfl d,
      if_neg (by rw [notFresh0_4_D t (fun h => h0 ((hcond0_0 t).mp h)) (fun h => h1 ((hcond0_1 t).mp h)) (fun h => h2 ((hcond0_2 t).mp h)) ((hcond0_3 t).mpr h3) ((hcond0_4 t).mpr h4) (hcond0_5 t)]; exact Bool.false_ne_true)]
    rw [after0_4]
    refine congrArg codeSpec ?_
    show blk m c (t.val - 1) = blk m c t.val
    rw [show t.val = 33 by omega]
    rfl
  simp only [hb4]
  rw [show (dats m 0 c).owesAt () t.succ = (dats m 0 c).owesAt () t.castSucc from rfl]
  rw [PhiV_fsucc, PhiV_succ, PhiV_castSucc, leaves0, leaves1, leaves2]
  rw [leaves3 m c t (liveAt0_3_D t (fun h => h0 ((hcond0_0 t).mp h)) (fun h => h1 ((hcond0_1 t).mp h)) (fun h => h2 ((hcond0_2 t).mp h)) ((hcond0_3 t).mpr h3) ((hcond0_4 t).mpr h4) (hcond0_5 t))]
  rw [show (dats m 0 c).leavesExact 4 t = owns (c : Thread nD τ) (ms0_4 t) fullShare (codeSpec (blk m c t.val)) from by
    unfold Dat.leavesExact; rw [idleAt0_4_D t (fun h => h0 ((hcond0_0 t).mp h)) (fun h => h1 ((hcond0_1 t).mp h)) (fun h => h2 ((hcond0_2 t).mp h)) ((hcond0_3 t).mpr h3) ((hcond0_4 t).mpr h4) (hcond0_5 t), flush4_last t (by omega)]; rw [after0_4]]
  rw [leaves5 m c t (liveAt0_5_D t (fun h => h0 ((hcond0_0 t).mp h)) (fun h => h1 ((hcond0_1 t).mp h)) (fun h => h2 ((hcond0_2 t).mp h)) ((hcond0_3 t).mpr h3) ((hcond0_4 t).mpr h4) (hcond0_5 t))]
  rw [show iblk m c 0 t = xblk m c t from rfl]
  rw [PhiV_pos m c _ (show t.val ≠ 0 by omega)]
  iintro ⟨⟨%d1, %d2, %d3, %d4, %d5, %hst, ⟨HS0, HS1, HS2, HS3, HS4, HS5⟩, Hg⟩, Ho, ⟨%e0, H0⟩, ⟨%e1, H1⟩, ⟨%e2, H2⟩, ⟨%e3, H3⟩, ⟨%e4, H4⟩, ⟨%e5, H5⟩⟩
  have hs := hst (by omega)
  obtain ⟨e1', e3'⟩ := hs.1 (by omega)
  iapply ((kernelRun0_D (F := Ideal) c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (hcond0_5 t) (xblk m c t) (iblk m c 1 t) (iblk m c 2 t) (codeSpec (blk m c t.val)) (wts m c) d1 d2 d3 d4 d5).2.2.2.2.2.2.2.2.2 Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%fH3, H3⟩, H4, ⟨%fH5, H5⟩, HS0, HS1, HS2, HS3, HS4, HS5⟩
  isplitl [HS0 HS1 HS2 HS3 HS4 HS5 Hg]
  · iexists d1; iexists d2; iexists d3; iexists d4; iexists d5
    isplitr
    · ipureintro; intro h; omega
    isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; rw [pcD_out (F := Ideal) c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (hcond0_5 t) (xblk m c t) (iblk m c 1 t) (iblk m c 2 t) (codeSpec (blk m c t.val)) (wts m c) d1 d2 d3 d4 d5]; rw [read_out]; unfold outB; rw [e1', e3']
  isplitl [H4]
  · iexact H4
  unfold owns; iexists _; isplitr
  swap; · iexact H5
  ipureintro; rw [pcD_xs (F := Ideal) c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (hcond0_5 t) (xblk m c t) (iblk m c 1 t) (iblk m c 2 t) (codeSpec (blk m c t.val)) (wts m c) d1 d2 d3 d4 d5]; rw [read_xs]; rw [lines_all m c d5 (fun y hy => hs.2.2 y (by omega))]

end Cert.KernelIdeal.Val
-- ==== Proof.Val.Launch.lean ====
/- The launch: the body's triple at every point, and the run of the whole program. -/
module

public import proofs.«01_k».proof.Proof.Val.BodyA
public import proofs.«01_k».proof.Proof.Val.BodyB
public import proofs.«01_k».proof.Proof.Val.BodyC
public import proofs.«01_k».proof.Proof.Val.BodyD

@[expose] public section

noncomputable section

namespace Cert.KernelIdeal.Val

open Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 34 := lt_of_lt_of_eq t.isLt (show cfg0.N = 34 from N_0)
  by_cases h0 : t.val % 34 = 0
  · exact body_A m c t h0 (by omega) (by omega) (by omega) (by omega)
  by_cases h3 : t.val % 34 = 33
  · exact body_D m c t h0 (by omega) (by omega) h3 h3
  by_cases h1 : (t.val % 34 = 1 ∨ t.val % 34 = 3 ∨ t.val % 34 = 5 ∨ t.val % 34 = 7 ∨ t.val % 34 = 9 ∨ t.val % 34 = 11 ∨ t.val % 34 = 13 ∨ t.val % 34 = 15 ∨ t.val % 34 = 17 ∨ t.val % 34 = 19 ∨ t.val % 34 = 21 ∨ t.val % 34 = 23 ∨ t.val % 34 = 25 ∨ t.val % 34 = 27 ∨ t.val % 34 = 29 ∨ t.val % 34 = 31)
  · exact body_B m c t h0 h1 (by omega) h3 h3
  · exact body_C m c t h0 h1 (by omega) h3 h3

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiV m c 0 from rfl, PhiV_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiV m c (Fin.last cfg0.N).val from rfl,
    PhiV_pos m c _ (by rw [Fin.val_last]; have : cfg0.N = 34 := N_0; omega), PhiA0_eq]
  iintro ⟨%d1, %d2, %d3, %d4, %d5, -, ⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

-- the launch's implicit arguments are found by unifying its conclusion with this one
set_option backward.isDefEq.respectTransparency.types false in
set_option maxHeartbeats 800000 in
/-- The launch, with the machine's counters at zero at the end. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run: every array of the pipeline ends at what the proof data computes, every other buffer as the lines after leave it. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Val
-- ==== Proof.Val.RefFacts.lean ====
/- The side conditions the reference program states (shapes of its reshapes, broadcasts, reductions and
   products), each decided. -/
module

public import proofs.«01_k».proof.ReferenceIdeal
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096
-- one theorem at a time: the kernel's `decide` over every grid point of a production-shape program holds
-- gigabytes while it runs, and run in parallel (Lean's default) a module of fifty such closed forms passed
-- 10 GiB resident (a 224-point ring kernel's); in turn it peaks near 2 GiB and finishes no later
set_option Elab.async false

namespace Cert.ReferenceIdeal.Gen

open Idealize.ShloMosaic Idealize.SL.Sem
/-! ## The facts over the vocabulary (`Facts₀`) -/

theorem shapeCasts_S6x1408x1536_S6x1408x12x128 : S6x1408x1536.ShapeCasts S6x1408x12x128 := by decide
theorem bitsLt_bf16_f32 : FTy.bits .bf16 < FTy.bits .f32 := by decide
theorem transposes_S12x6x1408x128_S6x1408x12x128_1_2_0_3 : S12x6x1408x128.Transposes [1, 2, 0, 3] S6x1408x12x128 := by decide
theorem bcast_S_S6x1408x12x128 : S_.BroadcastsInDim S6x1408x12x128 (![] : Fin 0 → Fin S6x1408x12x128.rank) := by decide
theorem shapeCasts_S6x1408x12x128_S6x1408x1536 : S6x1408x12x128.ShapeCasts S6x1408x1536 := by decide
theorem reducesTo_S6x1408x1536_S6x1408_d2 : S6x1408x1536.ReducesTo [2] S6x1408 := by decide
theorem h_S_ : 0 < S_.numel := by decide
theorem bcast_S_S6x1408 : S_.BroadcastsInDim S6x1408 (![] : Fin 0 → Fin S6x1408.rank) := by decide
theorem bcast_S6x1408_S6x1408x1_0_1 : S6x1408.BroadcastsInDim S6x1408x1 (![0, 1] : Fin 2 → Fin S6x1408x1.rank) := by decide
theorem bcast_S6x1408x1_S6x1408x1536_0_1_2 : S6x1408x1.BroadcastsInDim S6x1408x1536 (![0, 1, 2] : Fin 3 → Fin S6x1408x1536.rank) := by decide
theorem bcast_S_S6x1408x1536 : S_.BroadcastsInDim S6x1408x1536 (![] : Fin 0 → Fin S6x1408x1536.rank) := by decide
theorem natLt_8_32 : 8 < 32 := by decide
theorem bcast_S_S1536x768 : S_.BroadcastsInDim S1536x768 (![] : Fin 0 → Fin S1536x768.rank) := by decide
theorem natLt_1_32 : 1 < 32 := by decide
theorem shapeCasts_S1536x768_S1536x6x128 : S1536x768.ShapeCasts S1536x6x128 := by decide
theorem slices_S1536x12_S1536x6_0_0 : S1536x12.Slices ![0, 0] S1536x6 := by decide
theorem bcast_S1536x6_S1536x6x1_0_1 : S1536x6.BroadcastsInDim S1536x6x1 (![0, 1] : Fin 2 → Fin S1536x6x1.rank) := by decide
theorem bcast_S1536x6x1_S1536x6x128_0_1_2 : S1536x6x1.BroadcastsInDim S1536x6x128 (![0, 1, 2] : Fin 3 → Fin S1536x6x128.rank) := by decide
theorem shapeCasts_S1536x6x128_S1536x768 : S1536x6x128.ShapeCasts S1536x768 := by decide
theorem slices_S1536x12_S1536x6_0_6 : S1536x12.Slices ![0, 6] S1536x6 := by decide
theorem slices_S6x1408x1536_S6x1408x768_0_0_0 : S6x1408x1536.Slices ![0, 0, 0] S6x1408x768 := by decide
theorem slices_S6x1408x1536_S6x1408x768_0_0_768 : S6x1408x1536.Slices ![0, 0, 768] S6x1408x768 := by decide
theorem dot_S12x12_S6x1408x12x128_S12x6x1408x128_0_2_1_013_n_n_wf : DotDims.WF S12x12 S6x1408x12x128 S12x6x1408x128 [0] [2] [1] [0, 1, 3] [] [] := by decide
theorem dot_S6x1408x768_S1536x768_S6x1408x1536_2_1_01_0_n_n_wf : DotDims.WF S6x1408x768 S1536x768 S6x1408x1536 [2] [1] [0, 1] [0] [] [] := by decide

/-- The program's facts over its vocabulary, proved: the instance its windows take. -/
instance facts₀ : Cert.ReferenceIdeal.Facts₀ where
  shapeCasts_S6x1408x1536_S6x1408x12x128 := @shapeCasts_S6x1408x1536_S6x1408x12x128
  bitsLt_bf16_f32 := @bitsLt_bf16_f32
  transposes_S12x6x1408x128_S6x1408x12x128_1_2_0_3 := @transposes_S12x6x1408x128_S6x1408x12x128_1_2_0_3
  bcast_S_S6x1408x12x128 := @bcast_S_S6x1408x12x128
  shapeCasts_S6x1408x12x128_S6x1408x1536 := @shapeCasts_S6x1408x12x128_S6x1408x1536
  reducesTo_S6x1408x1536_S6x1408_d2 := @reducesTo_S6x1408x1536_S6x1408_d2
  h_S_ := @h_S_
  bcast_S_S6x1408 := @bcast_S_S6x1408
  bcast_S6x1408_S6x1408x1_0_1 := @bcast_S6x1408_S6x1408x1_0_1
  bcast_S6x1408x1_S6x1408x1536_0_1_2 := @bcast_S6x1408x1_S6x1408x1536_0_1_2
  bcast_S_S6x1408x1536 := @bcast_S_S6x1408x1536
  natLt_8_32 := @natLt_8_32
  bcast_S_S1536x768 := @bcast_S_S1536x768
  natLt_1_32 := @natLt_1_32
  shapeCasts_S1536x768_S1536x6x128 := @shapeCasts_S1536x768_S1536x6x128
  slices_S1536x12_S1536x6_0_0 := @slices_S1536x12_S1536x6_0_0
  bcast_S1536x6_S1536x6x1_0_1 := @bcast_S1536x6_S1536x6x1_0_1
  bcast_S1536x6x1_S1536x6x128_0_1_2 := @bcast_S1536x6x1_S1536x6x128_0_1_2
  shapeCasts_S1536x6x128_S1536x768 := @shapeCasts_S1536x6x128_S1536x768
  slices_S1536x12_S1536x6_0_6 := @slices_S1536x12_S1536x6_0_6
  slices_S6x1408x1536_S6x1408x768_0_0_0 := @slices_S6x1408x1536_S6x1408x768_0_0_0
  slices_S6x1408x1536_S6x1408x768_0_0_768 := @slices_S6x1408x1536_S6x1408x768_0_0_768
  dot_S12x12_S6x1408x12x128_S12x6x1408x128_0_2_1_013_n_n_wf := @dot_S12x12_S6x1408x12x128_S12x6x1408x128_0_2_1_013_n_n_wf
  dot_S6x1408x768_S1536x768_S6x1408x1536_2_1_01_0_n_n_wf := @dot_S6x1408x768_S1536x768_S6x1408x1536_2_1_01_0_n_n_wf

/-! ## The facts over the windows (`Facts`) -/

/-- Every fact the program states, proved: the instance its functions and a certificate's claims take. -/
instance facts : Cert.ReferenceIdeal.Facts where

end Cert.ReferenceIdeal.Gen
-- ==== Proof.Val.RefRun.lean ====
/- The run of the reference: its arguments are left alone, and each result is a composed term of them. -/
module

public import proofs.«01_k».proof.Defs
public import proofs.«01_k».proof.Proof.Val.RefFacts
public import Idealize.ShloMosaic.Lib.Claim
public import Idealize.ShloMosaic.Lib.Quiescent
public import Idealize.ShloMosaic.Lib.StableHlo.Run

@[expose] public section

noncomputable section

namespace Cert.ReferenceIdeal.Val

open Idealize.ShloMosaic Idealize.SL.Sem Cert.ReferenceIdeal Cert.ReferenceIdeal.Gen

/-- The rotated heads, scaled by the rounded `12 ^ (-1/2)`, on the rows of 1536. -/
def rZ (x : FVec Ideal S6x1408x1536 .bf16) : FVec Ideal S6x1408x1536 .f32 :=
  shapeCast S6x1408x1536 (mulf
    (transpose S6x1408x12x128 [1, 2, 0, 3]
      (Host.dotGeneral (F := Ideal) dot_S12x12_S6x1408x12x128_S12x6x1408x128_0_2_1_013_n_n (some .fp32)
        (fun i => FloatOps.ofBits .f32 (lit0 (S12x12.rowMajor i)))
        (extf .f32 (shapeCast S6x1408x12x128 x shapeCasts_S6x1408x1536_S6x1408x12x128 : FVec Ideal S6x1408x12x128 .bf16) bitsLt_bf16_f32))
      transposes_S12x6x1408x128_S6x1408x12x128_1_2_0_3)
    (broadcastInDim S6x1408x12x128 ![] bcast_S_S6x1408x12x128 (constant S_ .f32 0x3E93CD3A#32))) shapeCasts_S6x1408x12x128_S6x1408x1536

/-- The largest magnitude of each row. -/
def rA (z : FVec Ideal S6x1408x1536 .f32) : FVec Ideal S6x1408 .f32 :=
  Host.reduce FloatOps.maximumf (Host.absf z) (constant S_ .f32 0xFF800000#32) reducesTo_S6x1408x1536_S6x1408_d2 h_S_

/-- The scale of each row. -/
def rS (a : FVec Ideal S6x1408 .f32) : FVec Ideal S6x1408 .f32 :=
  select (cmpf .oeq a (broadcastInDim S6x1408 ![] bcast_S_S6x1408 (constant S_ .f32 0x00000000#32)))
    (broadcastInDim S6x1408 ![] bcast_S_S6x1408 (constant S_ .f32 0x3F800000#32))
    (Host.divf a (broadcastInDim S6x1408 ![] bcast_S_S6x1408 (constant S_ .f32 0x40E00000#32)))

/-- A row's scale, repeated along the row. -/
def rSb (s : FVec Ideal S6x1408 .f32) : FVec Ideal S6x1408x1536 .f32 :=
  broadcastInDim S6x1408x1536 ![0, 1, 2] bcast_S6x1408x1_S6x1408x1536_0_1_2
    (broadcastInDim S6x1408x1 ![0, 1] bcast_S6x1408_S6x1408x1_0_1 s)

/-- The codes of a scaled row. -/
def rC (z s : FVec Ideal S6x1408x1536 .f32) : IVec S6x1408x1536 8 :=
  trunci 8 (fptosi 32 (minimumf (broadcastInDim S6x1408x1536 ![] bcast_S_S6x1408x1536 (constant S_ .f32 0x40E00000#32))
    (maximumf (broadcastInDim S6x1408x1536 ![] bcast_S_S6x1408x1536 (constant S_ .f32 0xC0E00000#32))
      (Host.roundeven (Host.divf z s))))) natLt_8_32

/-- A nibble `0 … 15` as the signed number it stands for. -/
def rN (n : IVec S1536x768 32) : IVec S1536x768 32 :=
  subi n (muli (broadcastInDim S1536x768 ![] bcast_S_S1536x768 (constantI S_ 32 16#32))
    (extui 32 (cmpi .sge n (broadcastInDim S1536x768 ![] bcast_S_S1536x768 (constantI S_ 32 8#32))) natLt_1_32))

/-- The low nibbles. -/
def rLo (w : IVec S1536x768 8) : IVec S1536x768 32 :=
  rN (andi (extui 32 w natLt_8_32) (broadcastInDim S1536x768 ![] bcast_S_S1536x768 (constantI S_ 32 15#32)))

/-- The high nibbles. -/
def rHi (w : IVec S1536x768 8) : IVec S1536x768 32 :=
  rN (Host.shrsi (extui 32 w natLt_8_32) (broadcastInDim S1536x768 ![] bcast_S_S1536x768 (constantI S_ 32 4#32)))

/-- Half of the weight: its nibbles times the scales of their groups. -/
def rW (n : IVec S1536x768 32) (g : FVec Ideal S1536x6 .bf16) : FVec Ideal S1536x768 .bf16 :=
  shapeCast S1536x768 (mulf
    (shapeCast S1536x6x128 (sitofp .bf16 n) shapeCasts_S1536x768_S1536x6x128 : FVec Ideal S1536x6x128 .bf16)
    (broadcastInDim S1536x6x128 ![0, 1, 2] bcast_S1536x6x1_S1536x6x128_0_1_2
      (broadcastInDim S1536x6x1 ![0, 1] bcast_S1536x6_S1536x6x1_0_1 g))) shapeCasts_S1536x6x128_S1536x768

/-- The output. -/
def rO (q : IVec S6x1408x1536 8) (s : FVec Ideal S6x1408x1536 .f32) (w : IVec S1536x768 8) (ws : FVec Ideal S1536x12 .f32) :
    FVec Ideal S6x1408x1536 .bf16 :=
  truncf .bf16 (mulf (addf
    (Host.dotGeneral (F := Ideal) dot_S6x1408x768_S1536x768_S6x1408x1536_2_1_01_0_n_n none
      (extractStridedSlice S6x1408x768 ![0, 0, 0] (sitofp (F := Ideal) .bf16 (extsi 32 q natLt_8_32)) slices_S6x1408x1536_S6x1408x768_0_0_0)
      (rW (rLo w) (extractStridedSlice S1536x6 ![0, 0] (truncf .bf16 ws bitsLt_bf16_f32 : FVec Ideal S1536x12 .bf16) slices_S1536x12_S1536x6_0_0)))
    (Host.dotGeneral (F := Ideal) dot_S6x1408x768_S1536x768_S6x1408x1536_2_1_01_0_n_n none
      (extractStridedSlice S6x1408x768 ![0, 0, 768] (sitofp (F := Ideal) .bf16 (extsi 32 q natLt_8_32)) slices_S6x1408x1536_S6x1408x768_0_0_768)
      (rW (rHi w) (extractStridedSlice S1536x6 ![0, 6] (truncf .bf16 ws bitsLt_bf16_f32 : FVec Ideal S1536x12 .bf16) slices_S1536x12_S1536x6_0_6))))
    s) bitsLt_bf16_f32

/-- The scales, from the activations. -/
def RS (x : FVec Ideal S6x1408x1536 .bf16) : FVec Ideal S6x1408 .f32 := rS (rA (rZ x))

/-- The codes, from the activations. -/
def RC (x : FVec Ideal S6x1408x1536 .bf16) : IVec S6x1408x1536 8 := rC (rZ x) (rSb (RS x))

/-- The output, from the three arguments. -/
def RO (x : FVec Ideal S6x1408x1536 .bf16) (w : IVec S1536x768 8) (ws : FVec Ideal S1536x12 .f32) : FVec Ideal S6x1408x1536 .bf16 :=
  rO (RC x) (rSb (RS x)) w ws

/-! A called function's buffers are typed by the caller's: the casts between the two are the identity. -/

theorem toBuf_main_v13 (h1 h2 h3) (x : (⟨S6x1408, .f32⟩ : BufTy).Contents (Elt Ideal)) : (StableHlo.TRef.of (T := ⟨S6x1408, .f32⟩) main_v13 h1 h2 h3).toBuf x = x := rfl
theorem ofBuf_main_v10 (h1 h2 h3) (x : main_v10.ty.Contents (Elt Ideal)) : (StableHlo.TRef.of (T := ⟨S6x1408, .i1⟩) main_v10 h1 h2 h3).ofBuf x = x := rfl
theorem ofBuf_main_v12 (h1 h2 h3) (x : main_v12.ty.Contents (Elt Ideal)) : (StableHlo.TRef.of (T := ⟨S6x1408, .f32⟩) main_v12 h1 h2 h3).ofBuf x = x := rfl
theorem ofBuf_main_cst_4 (h1 h2 h3) (x : main_cst_4.ty.Contents (Elt Ideal)) : (StableHlo.TRef.of (T := ⟨S_, .f32⟩) main_cst_4 h1 h2 h3).ofBuf x = x := rfl
theorem ofBuf_main_v16 (h1 h2 h3) (x : main_v16.ty.Contents (Elt Ideal)) : (StableHlo.TRef.of (T := ⟨S6x1408x1536, .f32⟩) main_v16 h1 h2 h3).ofBuf x = x := rfl
theorem toBuf_main_v17 (h1 h2 h3) (x : (⟨S6x1408x1536, .f32⟩ : BufTy).Contents (Elt Ideal)) : (StableHlo.TRef.of (T := ⟨S6x1408x1536, .f32⟩) main_v17 h1 h2 h3).toBuf x = x := rfl
theorem ofBuf_main_v17 (h1 h2 h3) (x : main_v17.ty.Contents (Elt Ideal)) : (StableHlo.TRef.of (T := ⟨S6x1408x1536, .f32⟩) main_v17 h1 h2 h3).ofBuf x = x := rfl
theorem ofBuf_main_cst_5 (h1 h2 h3) (x : main_cst_5.ty.Contents (Elt Ideal)) : (StableHlo.TRef.of (T := ⟨S_, .f32⟩) main_cst_5 h1 h2 h3).ofBuf x = x := rfl
theorem ofBuf_main_cst_6 (h1 h2 h3) (x : main_cst_6.ty.Contents (Elt Ideal)) : (StableHlo.TRef.of (T := ⟨S_, .f32⟩) main_cst_6 h1 h2 h3).ofBuf x = x := rfl
theorem toBuf_main_v18 (h1 h2 h3) (x : (⟨S6x1408x1536, .f32⟩ : BufTy).Contents (Elt Ideal)) : (StableHlo.TRef.of (T := ⟨S6x1408x1536, .f32⟩) main_v18 h1 h2 h3).toBuf x = x := rfl

set_option maxHeartbeats 3200000 in
/-- THE RUN of the reference. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v64) = RO (m ((c.tc : Thread nD τ).loc main_arg0)) (m ((c.tc : Thread nD τ).loc main_arg1)) (m ((c.tc : Thread nD τ).loc main_arg2))
      ∧ r.2.mem ((c.tc : Thread nD τ).loc main_v20) = RC (m ((c.tc : Thread nD τ).loc main_arg0))
      ∧ r.2.mem ((c.tc : Thread nD τ).loc main_v13) = RS (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · simp only [StableHlo.TRef.ofBuf_toBuf, toBuf_main_v13, ofBuf_main_v10, ofBuf_main_v12, ofBuf_main_cst_4, ofBuf_main_v16, toBuf_main_v17, ofBuf_main_v17, ofBuf_main_cst_5, ofBuf_main_cst_6, toBuf_main_v18]
    unfold RO rO RC rC rW rLo rHi rN rSb RS rS rA rZ
    rfl
  · simp only [StableHlo.TRef.ofBuf_toBuf, toBuf_main_v13, ofBuf_main_v10, ofBuf_main_v12, ofBuf_main_cst_4, ofBuf_main_v16, toBuf_main_v17, ofBuf_main_v17, ofBuf_main_cst_5, ofBuf_main_cst_6, toBuf_main_v18]
    rfl
  · simp only [StableHlo.TRef.ofBuf_toBuf, toBuf_main_v13, ofBuf_main_v10, ofBuf_main_v12, ofBuf_main_cst_4, ofBuf_main_v16, toBuf_main_v17, ofBuf_main_v17, ofBuf_main_cst_5, ofBuf_main_cst_6, toBuf_main_v18]
    rfl

/-- THE FRAME of the reference: it leaves its arguments alone, and it has no semaphore. -/
theorem quiescentRI : Cert.quiescent_ReferenceIdeal := fun m g _ =>
  (θ_run _ _ _).mono (fun r h => ⟨fun c => (h c).2.2.2, sem_eq_zero_of_no_sems (by decide) r.2⟩) (run m g)

end Cert.ReferenceIdeal.Val

end
-- ==== Proof.Val.Row.lean ====
/- One row: the reference's scale and codes are the kernel's, whatever the row holds. -/
module

public import proofs.«01_k».proof.Proof.Val.Reads

@[expose] public section

noncomputable section

namespace Cert.KernelIdeal.Val

open Cert.Val
open Idealize.ShloMosaic

/-- The rotation's factor is a positive real. -/
theorem c0_real : ∃ r : ℝ, 0 < r ∧ c0 = (r : EReal) := by
  unfold c0
  simp [Ideal.ofBits, Ideal.ieee]
  refine ⟨_, ?_, (EReal.coe_mul _ _).symm⟩
  norm_num

theorem inf_mul_c0 (x : EReal) : Inf (x * c0) ↔ Inf x := by
  obtain ⟨r, hr, e⟩ := c0_real
  rw [e]
  unfold Inf
  induction x with
  | bot => rw [EReal.bot_mul_coe_of_pos hr]
  | top => rw [EReal.top_mul_coe_of_pos hr]
  | coe x => exact iff_of_false ((not_inf _).2 ⟨x * r, (EReal.coe_mul _ _).symm⟩) ((not_inf _).2 ⟨x, rfl⟩)

/-- The reference's rotated and scaled value. -/
def zref (X : Fin 12 → Fin 128 → EReal) (g : Fin 12) (l : Fin 128) : EReal := rotSum (fun h => X h l) g * c0

theorem absmax_inf (z : EReal) (h : Inf z) : max z (-z) = ⊤ := by
  rcases h with rfl | rfl <;> simp

theorem amax_top (Z : Fin 12 → Fin 128 → EReal) (g : Fin 12) (l : Fin 128) (h : Inf (Z g l)) : amaxRow Z = ⊤ := by
  refine top_le_iff.1 ?_
  rw [← absmax_inf _ h]
  exact le_trans (Finset.le_sup (f := fun g => max (Z g l) (-Z g l)) (Finset.mem_univ g))
    (Finset.le_sup (f := fun l => (Finset.univ : Finset (Fin 12)).sup fun g => max (Z g l) (-Z g l)) (Finset.mem_univ l))

theorem scale_top : scaleOf ⊤ = ⊤ := by
  have h7 : (7 : EReal) = ((7 : ℝ) : EReal) := rfl
  unfold scaleOf Ideal.cmp
  rw [h7, Ideal.div_coe (by norm_num), EReal.top_mul_coe_of_pos (by norm_num)]
  simp [Scalar.select]

theorem div_top (z : EReal) : Ideal.div z ⊤ = 0 := by
  unfold Ideal.div
  rw [if_neg (by simp), EReal.inv_top, mul_zero]

/-- A row with an infinity in it rotates to one with an infinity, in either program. -/
theorem amax_inf (X : Fin 12 → Fin 128 → EReal) (h : Fin 12) (l : Fin 128) (hi : Inf (X h l)) :
    amaxRow (zrow X) = ⊤ ∧ amaxRow (zref X) = ⊤ :=
  ⟨amax_top _ 0 l ((inf_mul_c0 _).2 (inf_rotE _ h 0 hi)), amax_top _ 0 l ((inf_mul_c0 _).2 ((inf_rotSum _ 0).2 ⟨h, hi⟩))⟩

/-- A row of reals rotates alike in both programs. -/
theorem zref_eq (X : Fin 12 → Fin 128 → EReal) (hX : ¬ ∃ h l, Inf (X h l)) : zref X = zrow X := by
  funext g l
  unfold zref zrow
  rw [rotE_eq_rotSum _ (fun ⟨h, hh⟩ => hX ⟨h, l, hh⟩)]

theorem ref_scale (X : Fin 12 → Fin 128 → EReal) : scaleOf (amaxRow (zref X)) = rowScale X := by
  unfold rowScale
  by_cases hX : ∃ h l, Inf (X h l)
  · obtain ⟨h, l, hi⟩ := hX
    rw [(amax_inf X h l hi).1, (amax_inf X h l hi).2]
  · rw [zref_eq X hX]

theorem ref_code (X : Fin 12 → Fin 128 → EReal) (g : Fin 12) (l : Fin 128) : codeB (zref X g l) (rowScale X) = rowCode X g l := by
  by_cases hX : ∃ h l, Inf (X h l)
  · obtain ⟨h, l, hi⟩ := hX
    unfold rowCode rowScale codeB codeE
    rw [(amax_inf X h l hi).1, scale_top, div_top, div_top]
  · rw [zref_eq X hX]
    rfl

/-- A number between `-7` and `7` is the same signed byte whether it is rounded to 8 bits or to 32 bits and cut. -/
theorem trunc_code (z s : EReal) : BitVec.setWidth 8 (Ideal.fptosi 32 (codeE z s)) = codeB z s := by
  unfold codeB
  have h1 : codeE z s ≤ ((7 : ℝ) : EReal) := min_le_left _ _
  have h2 : ((-7 : ℝ) : EReal) ≤ codeE z s := by
    unfold codeE
    refine le_min ?_ (le_max_left _ _)
    exact EReal.coe_le_coe_iff.2 (by norm_num)
  generalize codeE z s = v at h1 h2
  induction v with
  | bot => simp at h2
  | top => simp at h1
  | coe r =>
    have r1 : r ≤ 7 := EReal.coe_le_coe_iff.1 h1
    have r2 : -7 ≤ r := EReal.coe_le_coe_iff.1 h2
    have hn : ∃ n : ℤ, -7 ≤ n ∧ n ≤ 7 ∧ (if 0 ≤ r then ⌊r⌋ else ⌈r⌉) = n := by
      refine ⟨_, ?_, ?_, rfl⟩
      · split
        · exact Int.le_floor.2 (by exact_mod_cast r2)
        · have : (-7 : ℤ) - 1 < ⌈r⌉ := Int.lt_ceil.2 (by push_cast; linarith)
          omega
      · split
        · have : ⌊r⌋ < (7 : ℤ) + 1 := Int.floor_lt.2 (by push_cast; linarith)
          omega
        · exact Int.ceil_le.2 (by exact_mod_cast r1)
    obtain ⟨n, n1, n2, e⟩ := hn
    unfold Ideal.fptosi
    rw [Ideal.toIntClamped_coe, Ideal.toIntClamped_coe, e]
    interval_cases n <;> decide

/-- The largest magnitude of a row, read along its 1536 columns. -/
theorem fold_row (z : Fin 1536 → EReal) (Z : Fin 12 → Fin 128 → EReal) (h : ∀ q, z q = Z (hdOf q) (lnOf q)) :
    Finset.fold max (⊥ : EReal) (fun q => max (z q) (-z q)) (Finset.univ : Finset (Fin 1536)) = amaxRow Z := by
  show (Finset.univ : Finset (Fin 1536)).sup (fun q => max (z q) (-z q)) = amaxRow Z
  unfold amaxRow
  refine le_antisymm (Finset.sup_le fun q _ => ?_) (Finset.sup_le fun l _ => Finset.sup_le fun g _ => ?_)
  · rw [h q]
    exact le_trans (Finset.le_sup (f := fun g => max (Z g (lnOf q)) (-Z g (lnOf q))) (Finset.mem_univ (hdOf q)))
      (Finset.le_sup (f := fun l => (Finset.univ : Finset (Fin 12)).sup fun g => max (Z g l) (-Z g l)) (Finset.mem_univ (lnOf q)))
  · have hq := h (⟨128 * g.val + l.val, by omega⟩ : Fin 1536)
    rw [hdOf_add, lnOf_add] at hq
    rw [← hq]
    exact Finset.le_sup (f := fun q => max (z q) (-z q)) (Finset.mem_univ _)

end Cert.KernelIdeal.Val

end
-- ==== Proof.Val.RefAt.lean ====
/- The reference's results at an index. -/
module

public import proofs.«01_k».proof.Proof.Val.RefRun
public import proofs.«01_k».proof.Proof.Val.Row
public import Idealize.ShloMosaic.Lib.Pointwise.Sums
public import Idealize.ShloMosaic.Lib.Pointwise

@[expose] public section

set_option maxRecDepth 16384

noncomputable section

namespace Cert.ReferenceIdeal.Val

open Idealize.ShloMosaic Idealize.SL.Sem Cert.ReferenceIdeal Cert.ReferenceIdeal.Gen
open Cert.Val
open Cert.KernelIdeal.Val (hdOf lnOf nibLo nibHi nibOf intE c0 zref rowScale rowCode)

/-! ## The rotation -/

/-- The rotation's matrix as the reference's constant. -/
def rH : FVec Ideal S12x12 .f32 := fun i => FloatOps.ofBits .f32 (lit0 (S12x12.rowMajor i))

/-- The reference's rotation of heads by any matrix. -/
def rRot (w : FVec Ideal S12x12 .f32) (x : FVec Ideal S6x1408x12x128 .f32) : FVec Ideal S6x1408x12x128 .f32 :=
  transpose S6x1408x12x128 [1, 2, 0, 3]
    (Host.dotGeneral (F := Ideal) dot_S12x12_S6x1408x12x128_S12x6x1408x128_0_2_1_013_n_n (some .fp32) w x)
    transposes_S12x6x1408x128_S6x1408x12x128_1_2_0_3

theorem rRot_at (w : FVec Ideal S12x12 .f32) (x : FVec Ideal S6x1408x12x128 .f32) (b : Fin 6) (s : Fin 1408) (g : Fin 12) (l : Fin 128) :
    rRot w x (ix4 b s g l) = ∑ h : Fin 12, w (ix2 h g) * x (ix4 b s h l) := by
  pointwise [rRot]

theorem bits_neg_one : Ideal.ofBits .f32 0xBF800000#32 = (-1 : EReal) := by
  simp [Ideal.ofBits, Ideal.ieee]
  rw [← EReal.coe_mul]
  norm_num

theorem lit0_eq : ∀ h g : Fin 12, lit0 ⟨h.val * 12 + g.val, by omega⟩ = if pos h g then 0x3F800000#32 else 0xBF800000#32 := by
  decide

theorem rH_at (h g : Fin 12) : rH (ix2 h g) = had h g := by
  have e : S12x12.rowMajor (ix2 h g) = (⟨h.val * 12 + g.val, by omega⟩ : Fin 144) :=
    Fin.ext (Shape.rowMajor_val_two _)
  show Ideal.ofBits .f32 (lit0 (S12x12.rowMajor (ix2 h g))) = _
  rw [e, lit0_eq]
  unfold had
  split
  · exact Cert.KernelIdeal.Val.bits_one
  · exact bits_neg_one

/-- A row of the activations as heads by lanes. -/
def row3 (x : FVec Ideal S6x1408x1536 .bf16) (b : Fin 6) (s : Fin 1408) : Fin 12 → Fin 128 → EReal :=
  fun h l => x (ix3 b s ⟨128 * h.val + l.val, by omega⟩)

theorem heads_at (x : FVec Ideal S6x1408x1536 .bf16) (b : Fin 6) (s : Fin 1408) (h : Fin 12) (l : Fin 128) :
    (shapeCast S6x1408x12x128 x shapeCasts_S6x1408x1536_S6x1408x12x128 : FVec Ideal S6x1408x12x128 .bf16) (ix4 b s h l) = row3 x b s h l := by
  refine shapeCast_apply _ _ _ _ ?_
  rw [Shape.rowMajor_val_three, Shape.rowMajor_val_four]
  show (b.val * 1408 + s.val) * 1536 + (128 * h.val + l.val) = ((b.val * 1408 + s.val) * 12 + h.val) * 128 + l.val
  omega

theorem rZ_at (x : FVec Ideal S6x1408x1536 .bf16) (b : Fin 6) (s : Fin 1408) (q : Fin 1536) :
    rZ x (ix3 b s q) = zref (row3 x b s) (hdOf q) (lnOf q) := by
  unfold rZ
  rw [shapeCast_apply _ _ _ (ix4 b s (hdOf q) (lnOf q)) (by
    rw [Shape.rowMajor_val_three, Shape.rowMajor_val_four]
    show ((b.val * 1408 + s.val) * 12 + q.val / 128) * 128 + q.val % 128 = (b.val * 1408 + s.val) * 1536 + q.val
    omega)]
  show rRot rH (shapeCast S6x1408x12x128 x shapeCasts_S6x1408x1536_S6x1408x12x128) (ix4 b s (hdOf q) (lnOf q)) * c0 = _
  rw [rRot_at]
  unfold zref rotSum
  refine congrArg (· * c0) (Finset.sum_congr rfl fun h _ => ?_)
  rw [rH_at]
  exact congrArg (had h (hdOf q) * ·) (heads_at x b s h (lnOf q))

/-! ## Scales and codes -/

theorem rA_at (z : FVec Ideal S6x1408x1536 .f32) (b : Fin 6) (s : Fin 1408) :
    rA z (ix2 b s) = Finset.fold max (⊥ : EReal) (fun q : Fin 1536 => max (z (ix3 b s q)) (-z (ix3 b s q))) Finset.univ := by
  pointwise [rA]
  rw [Cert.KernelIdeal.Val.bits_bot]
  rfl

theorem rS_at (a : FVec Ideal S6x1408 .f32) (b : Fin 6) (s : Fin 1408) : rS a (ix2 b s) = Cert.KernelIdeal.Val.scaleOf (a (ix2 b s)) := by
  show Scalar.select (Ideal.cmp .oeq (a (ix2 b s)) (Ideal.ofBits .f32 0x00000000#32)) (Ideal.ofBits .f32 0x3F800000#32)
    (Ideal.div (a (ix2 b s)) (Ideal.ofBits .f32 0x40E00000#32)) = _
  rw [Cert.KernelIdeal.Val.bits_zero, Cert.KernelIdeal.Val.bits_one, Cert.KernelIdeal.Val.bits_seven]
  rfl

theorem rSb_at (a : FVec Ideal S6x1408 .f32) (b : Fin 6) (s : Fin 1408) (q : Fin 1536) : rSb a (ix3 b s q) = a (ix2 b s) := by
  pointwise [rSb]

theorem rC_at (z a : FVec Ideal S6x1408x1536 .f32) (b : Fin 6) (s : Fin 1408) (q : Fin 1536) :
    rC z a (ix3 b s q) = Cert.KernelIdeal.Val.codeB (z (ix3 b s q)) (a (ix3 b s q)) := by
  rw [← Cert.KernelIdeal.Val.trunc_code]
  show BitVec.setWidth 8 (Ideal.fptosi 32 (min (Ideal.ofBits .f32 0x40E00000#32) (max (Ideal.ofBits .f32 0xC0E00000#32)
    (Ideal.liftRound Ideal.roundHalfEven (Ideal.div (z (ix3 b s q)) (a (ix3 b s q))))))) = _
  rw [Cert.KernelIdeal.Val.bits_seven, Cert.KernelIdeal.Val.bits_neg_seven]
  rfl

/-- The reference's scales. -/
theorem RS_at (x : FVec Ideal S6x1408x1536 .bf16) (b : Fin 6) (s : Fin 1408) : RS x (ix2 b s) = rowScale (row3 x b s) := by
  unfold RS
  rw [rS_at, rA_at, Cert.KernelIdeal.Val.fold_row _ (zref (row3 x b s)) (fun q => rZ_at x b s q)]
  exact Cert.KernelIdeal.Val.ref_scale _

/-- The reference's codes. -/
theorem RC_at (x : FVec Ideal S6x1408x1536 .bf16) (b : Fin 6) (s : Fin 1408) (q : Fin 1536) :
    RC x (ix3 b s q) = rowCode (row3 x b s) (hdOf q) (lnOf q) := by
  unfold RC
  rw [rC_at, rSb_at, RS_at, rZ_at]
  exact Cert.KernelIdeal.Val.ref_code _ _ _

/-! ## The output -/

set_option maxRecDepth 8192 in
theorem lo_signed : ∀ b : BitVec 8, (IntOp.subi (IntOp.andi (BitVec.setWidth 32 b) 15#32)
    (IntOp.muli (16#32) (BitVec.setWidth 32 (IntOp.cmpi CmpIPredicate.sge (IntOp.andi (BitVec.setWidth 32 b) 15#32) 8#32)))).toInt = nibLo b := by
  decide +kernel

set_option maxRecDepth 8192 in
theorem hi_signed : ∀ b : BitVec 8, (IntOp.subi (IntOp.shrsi ArithUnit.host (BitVec.setWidth 32 b) 4#32)
    (IntOp.muli (16#32) (BitVec.setWidth 32 (IntOp.cmpi CmpIPredicate.sge (IntOp.shrsi ArithUnit.host (BitVec.setWidth 32 b) 4#32) 8#32)))).toInt = nibHi b := by
  decide +kernel

theorem rLo_at (w : IVec S1536x768 8) (n : Fin 1536) (k : Fin 768) : (rLo w (ix2 n k)).toInt = nibLo (w (ix2 n k)) := lo_signed _
theorem rHi_at (w : IVec S1536x768 8) (n : Fin 1536) (k : Fin 768) : (rHi w (ix2 n k)).toInt = nibHi (w (ix2 n k)) := hi_signed _

theorem rW_at (w : IVec S1536x768 32) (g : FVec Ideal S1536x6 .bf16) (n : Fin 1536) (k : Fin 768) :
    rW w g (ix2 n k) = intE (w (ix2 n k)) * g (ix2 n ⟨k.val / 128, by omega⟩) := by
  pointwise [rW]
  rfl

theorem ext_code (q : BitVec 8) : (FloatOps.sitofp (F := Ideal) .bf16 (BitVec.signExtend 32 q) : EReal) = intE q := by
  show (((BitVec.signExtend 32 q).toInt : ℝ) : EReal) = ((q.toInt : ℝ) : EReal)
  rw [BitVec.toInt_signExtend_of_le (by decide)]

/-- The low half of the weight. -/
theorem lo_at (w : IVec S1536x768 8) (ws : FVec Ideal S1536x12 .f32) (n : Fin 1536) (k : Fin 768) (hk : k.val < 1536) :
    rW (rLo w) (extractStridedSlice S1536x6 ![0, 0] (truncf .bf16 ws bitsLt_bf16_f32 : FVec Ideal S1536x12 .bf16) slices_S1536x12_S1536x6_0_0) (ix2 n k)
      = ((nibOf w n ⟨k.val, hk⟩ : ℝ) : EReal) * ws (ix2 n (hdOf ⟨k.val, hk⟩)) := by
  rw [rW_at]
  unfold intE nibOf
  rw [rLo_at, dif_pos k.isLt]
  refine congrArg₂ (· * ·) rfl ?_
  pointwise
  rfl

/-- The high half of the weight. -/
theorem hi_at (w : IVec S1536x768 8) (ws : FVec Ideal S1536x12 .f32) (n : Fin 1536) (k : Fin 768) (hk : 768 + k.val < 1536) :
    rW (rHi w) (extractStridedSlice S1536x6 ![0, 6] (truncf .bf16 ws bitsLt_bf16_f32 : FVec Ideal S1536x12 .bf16) slices_S1536x12_S1536x6_0_6) (ix2 n k)
      = ((nibOf w n ⟨768 + k.val, hk⟩ : ℝ) : EReal) * ws (ix2 n (hdOf ⟨768 + k.val, hk⟩)) := by
  rw [rW_at]
  unfold intE nibOf
  rw [rHi_at, dif_neg (by show ¬ 768 + k.val < 768; omega)]
  have ek : (⟨768 + k.val - 768, by omega⟩ : Fin 768) = k := Fin.ext (by show 768 + k.val - 768 = k.val; omega)
  refine congrArg₂ (· * ·) ?_ ?_
  · rw [ek]
    rfl
  · pointwise
    refine congrArg ws ?_
    have e : (⟨6 + k.val / 128, by omega⟩ : Fin 12) = hdOf ⟨768 + k.val, hk⟩ := Fin.ext (by show 6 + k.val / 128 = (768 + k.val) / 128; omega)
    rw [← e]

theorem rO_at (q : IVec S6x1408x1536 8) (a : FVec Ideal S6x1408x1536 .f32) (w : IVec S1536x768 8) (ws : FVec Ideal S1536x12 .f32)
    (b : Fin 6) (s : Fin 1408) (n : Fin 1536) :
    rO q a w ws (ix3 b s n) = (∑ k : Fin 1536, intE (q (ix3 b s k)) * (((nibOf w n k : ℝ) : EReal) * ws (ix2 n (hdOf k)))) * a (ix3 b s n) := by
  rw [Fin.sum_univ_two_halves 768 768 rfl]
  pointwise [rO]
  refine congrArg (· * a (ix3 b s n)) (congrArg₂ (· + ·) (Finset.sum_congr rfl fun k _ => ?_) (Finset.sum_congr rfl fun k _ => ?_))
  · rw [ext_code]
    exact congrArg (intE _ * ·) (lo_at w ws n k _)
  · rw [ext_code]
    exact congrArg (intE _ * ·) (hi_at w ws n k _)

/-- The reference's output. -/
theorem RO_at (x : FVec Ideal S6x1408x1536 .bf16) (w : IVec S1536x768 8) (ws : FVec Ideal S1536x12 .f32) (b : Fin 6) (s : Fin 1408) (n : Fin 1536) :
    RO x w ws (ix3 b s n) = (∑ k : Fin 1536, intE (rowCode (row3 x b s) (hdOf k) (lnOf k)) * (((nibOf w n k : ℝ) : EReal) * ws (ix2 n (hdOf k))))
      * rowScale (row3 x b s) := by
  unfold RO
  rw [rO_at, rSb_at, RS_at]
  refine congrArg (· * rowScale (row3 x b s)) (Finset.sum_congr rfl fun k _ => ?_)
  rw [RC_at]

end Cert.ReferenceIdeal.Val

end
-- ==== Proof.Val.Final.lean ====
/- The arrays the kernel ends with, as functions of its arguments. -/
module

public import proofs.«01_k».proof.Proof.Val.Launch
public import proofs.«01_k».proof.Proof.Val.RefAt
public import Idealize.ShloMosaic.Lib.Pipeline.ValueKit

@[expose] public section

set_option maxRecDepth 16384

noncomputable section

namespace Cert.KernelIdeal.Val

open Cert.KernelIdeal.Gen Cert.Val
open Cert.ReferenceIdeal.Val (row3)
open Idealize.ShloMosaic Idealize.ShloMosaic.TcCoe Idealize.SL.Sem
open Idealize.ShloMosaic.Pipeline (Dat)

variable (m : (ℓ : Loc nD τ sig) → Buf (Elt Ideal) ℓ)

/-- The blocks' positions. -/
theorem idx : ∀ t : Fin cfg0.N, win0_0.index t = ![min t.val 32, 0] ∧ win0_1.index t = ![0, 0] ∧ win0_2.index t = ![0, 0]
    ∧ win0_3.index t = ![t.val - 1, 0] ∧ win0_4.index t = ![min t.val 32, 0] ∧ win0_5.index t = ![0, 0] :=
  (by decide +kernel : ∀ t : Fin grid0.N, _)

theorem flush3_pos : ∀ t : Fin cfg0.N, (cfg0.win 3).flush t = true → 0 < t.val := by decide +kernel

/-- The activations as the region finds them. -/
def X0 (c : Dev nD) : Vec Ideal S8448x1536 .bf16 := V m c main_v0

theorem X0_eq (c : Dev nD) : X0 m c = shapeCast S8448x1536 (m ((c : Thread nD τ).loc main_arg0)) shapeCasts_S6x1408x1536_S8448x1536 := by
  unfold X0
  entry_read
  try rfl

theorem xblk_at (c : Dev nD) (t : Fin cfg0.N) (a : Fin 256) (k : Fin 1536) :
    xblk m c t (ix2 a k) = X0 m c (ix2 (⟨256 * min t.val 32 + a.val, by omega⟩ : Fin 8448) k) := by
  unfold xblk X0
  blk_ext [iblk, idx t]

theorem iblk1 (c : Dev nD) (t : Fin cfg0.N) : iblk m c 1 t = m ((c : Thread nD τ).loc main_arg1) := by
  blk_ext! [iblk, V, idx t]
theorem iblk2 (c : Dev nD) (t : Fin cfg0.N) : iblk m c 2 t = m ((c : Thread nD τ).loc main_arg2) := by
  blk_ext! [iblk, V, idx t]

theorem blk_congr (c : Dev nD) {n n' : ℕ} (h : min n 32 = min n' 32) : blk m c n = blk m c n' := by
  unfold blk
  exact congrArg (xblk m c) (Fin.ext h)

theorem codeSpec_congr (c : Dev nD) {n n' : ℕ} (h : min n 32 = min n' 32) {y y' : S256x1536.Idx} (h0 : (y 0).val = (y' 0).val) (h1 : (y 1).val = (y' 1).val) :
    codeSpec (blk m c n) y = codeSpec (blk m c n') y' := by
  rw [blk_congr m c h, show y = y' from funext fun i => Fin.ext (by match i with | ⟨0, _⟩ => exact h0 | ⟨1, _⟩ => exact h1)]

theorem outB_congr (c : Dev nD) {n n' : ℕ} (h : n = n') {y y' : S256x1536.Idx} (h0 : (y 0).val = (y' 0).val) (h1 : (y 1).val = (y' 1).val) :
    outB m c n y = outB m c n' y' := by
  rw [h, show y = y' from funext fun i => Fin.ext (by match i with | ⟨0, _⟩ => exact h0 | ⟨1, _⟩ => exact h1)]

theorem final3 (c : Dev nD) : (dats m 0 c).arrAt 3 (cfgs 0).N = (fun y : S8448x1536.Idx =>
    outB m c ((y 0).val / 256 + 1) (ValueIdx.ix2 (⟨(y 0).val % 256, by omega⟩ : Fin 256) (y 1))) := by
  refine (dats m 0 c).arrAt_eq_of_covers 3 _ (by decide +kernel) fun t hf y => ?_
  have hp := flush3_pos t hf
  have hy : (y 0).val < 256 := (y 0).isLt
  blk_simp [idx t]
  rw [after0_3]
  refine outB_congr m c ?_ ?_ ?_
  · omega
  · show (y 0).val = ((t.val - 1) * 256 + (y 0).val) % 256
    omega
  · show (y 1).val = ((win0_3.blk t).view.emb y 1).val
    blk_simp [idx t]

theorem final4 (c : Dev nD) : (dats m 0 c).arrAt 4 (cfgs 0).N = (fun y : S8448x1536.Idx =>
    codeSpec (blk m c ((y 0).val / 256)) (ValueIdx.ix2 (⟨(y 0).val % 256, by omega⟩ : Fin 256) (y 1))) := by
  refine (dats m 0 c).arrAt_eq_of_covers 4 _ (by decide +kernel) fun t hf y => ?_
  have hy : (y 0).val < 256 := (y 0).isLt
  blk_simp [idx t]
  rw [after0_4]
  refine codeSpec_congr m c ?_ ?_ ?_
  · omega
  · show (y 0).val = (min t.val 32 * 256 + (y 0).val) % 256
    omega
  · show (y 1).val = ((win0_4.blk t).view.emb y 1).val
    blk_simp [idx t]

theorem final5 (c : Dev nD) : (dats m 0 c).arrAt 5 (cfgs 0).N = xsSpec (lineAll m c) := by
  refine (dats m 0 c).arrAt_eq_of_after_last 5 (⟨33, lt_of_lt_of_eq (by omega : 33 < 34) N_0.symm⟩) (by decide +kernel) _ fun j => ?_
  blk_simp
  exact congrFun (after0_5 m c _) j

/-! ## The arrays over the arguments -/

theorem rowOf_blk (c : Dev nD) (n : ℕ) (a : Fin 256) (b : Fin 6) (s : Fin 1408) (h : 256 * min n 32 + a.val = 1408 * b.val + s.val) :
    rowOf (blk m c n) a = row3 (m ((c : Thread nD τ).loc main_arg0)) b s := by
  funext h' l
  unfold rowOf blk
  refine (xblk_at m c _ a _).trans ?_
  rw [X0_eq]
  refine shapeCast_apply _ _ _ (ix3 b s (⟨128 * h'.val + l.val, by omega⟩ : Fin 1536)) ?_
  rw [Shape.rowMajor_val_two _, Shape.rowMajor_val_three _]
  show (b.val * 1408 + s.val) * 1536 + (128 * h'.val + l.val) = (256 * min (min n 32) 32 + a.val) * 1536 + (128 * h'.val + l.val)
  omega

/-- The arguments at a core. -/
abbrev aX (c : Dev nD) : Vec Ideal S6x1408x1536 .bf16 := m ((c : Thread nD τ).loc main_arg0)
abbrev aW (c : Dev nD) : Vec Ideal S1536x768 .i8 := m ((c : Thread nD τ).loc main_arg1)
abbrev aS (c : Dev nD) : Vec Ideal S1536x12 .f32 := m ((c : Thread nD τ).loc main_arg2)

theorem wts_eq (c : Dev nD) : wts m c = wSpec (aW m c) (aS m c) := congrArg₂ wSpec (iblk1 m c pt0) (iblk2 m c pt0)

/-- The scales. -/
theorem v1_2_eq (c : Dev nD) : (dats m 0 c).arrAt 5 (cfgs 0).N = Cert.ReferenceIdeal.Val.RS (aX m c) := by
  rw [final5]
  funext y
  obtain ⟨b, s, rfl⟩ : ∃ (b : Fin 6) (s : Fin 1408), y = ix2 b s := ⟨_, _, eq_ix2 y⟩
  refine Eq.trans ?_ (Cert.ReferenceIdeal.Val.RS_at (aX m c) b s).symm
  refine congrArg rowScale (rowOf_blk m c _ _ b s ?_)
  show 256 * min ((11 * b.val + s.val / 128) / 2) 32 + (128 * ((11 * b.val + s.val / 128) % 2) + s.val % 128) = 1408 * b.val + s.val
  omega

/-- The codes, before the trailing reshape. -/
theorem codes_eq (c : Dev nD) (b : Fin 6) (s : Fin 1408) (q : Fin 1536) (r : Fin 8448) (hr : r.val = 1408 * b.val + s.val) :
    codeSpec (blk m c (r.val / 256)) (ValueIdx.ix2 (⟨r.val % 256, by omega⟩ : Fin 256) q) = Cert.ReferenceIdeal.Val.RC (aX m c) (ix3 b s q) := by
  rw [Cert.ReferenceIdeal.Val.RC_at]
  refine congrArg (fun R => rowCode R (hdOf q) (lnOf q)) (rowOf_blk m c _ _ b s ?_)
  show 256 * min (r.val / 256) 32 + r.val % 256 = _
  omega

/-- The output, before the trailing reshape. -/
theorem out_eq (c : Dev nD) (b : Fin 6) (s : Fin 1408) (q : Fin 1536) (r : Fin 8448) (hr : r.val = 1408 * b.val + s.val) :
    outB m c (r.val / 256 + 1) (ValueIdx.ix2 (⟨r.val % 256, by omega⟩ : Fin 256) q) = Cert.ReferenceIdeal.Val.RO (aX m c) (aW m c) (aS m c) (ix3 b s q) := by
  have hrow := rowOf_blk m c (r.val / 256) (⟨r.val % 256, by omega⟩ : Fin 256) b s (by
    show 256 * min (r.val / 256) 32 + r.val % 256 = _
    omega)
  rw [Cert.ReferenceIdeal.Val.RO_at]
  unfold outB
  rw [wts_eq, Nat.add_sub_cancel]
  refine congrArg₂ (· * ·) (Finset.sum_congr rfl fun k _ => ?_) (congrArg rowScale hrow)
  exact congrArg (fun R => intE (rowCode R (hdOf k) (lnOf k)) * (((nibOf (aW m c) q k : ℝ) : EReal) * aS m c (ix2 q (hdOf k)))) hrow

/-! The two lines after the region, over any contents of the buffers. -/

theorem tail_v2 (σ : (b : DevRef τ sig) → b.ty.Contents (Elt Ideal)) : StableHlo.after (List.flatten [hostOps1]) σ (Proc.devRef .tc main_v2)
    = shapeCast S6x1408x1536 (σ (Proc.devRef .tc main_v1_0)) shapeCasts_S8448x1536_S6x1408x1536 := by
  dsimp only [hostOps1, List.flatten_cons, List.flatten_nil, List.append_nil, List.cons_append, List.nil_append]
  after_results
  try rfl
theorem tail_v3 (σ : (b : DevRef τ sig) → b.ty.Contents (Elt Ideal)) : StableHlo.after (List.flatten [hostOps1]) σ (Proc.devRef .tc main_v3)
    = shapeCast S6x1408x1536 (σ (Proc.devRef .tc main_v1_1)) shapeCasts_S8448x1536_S6x1408x1536 := by
  dsimp only [hostOps1, List.flatten_cons, List.flatten_nil, List.append_nil, List.cons_append, List.nil_append]
  after_results
  try rfl

theorem withArrays_3 (c : Dev nD) : Pipeline.withArrays (cfgs 0).spec c (V0 m c) (fun w => (dats m 0 c).arrAt w (cfgs 0).N) (Proc.devRef .tc main_v1_0) = (dats m 0 c).arrAt 3 (cfgs 0).N :=
  Pipeline.withArrays_arr spec0 (by decide) c (V0 m c) _ 3
theorem withArrays_4 (c : Dev nD) : Pipeline.withArrays (cfgs 0).spec c (V0 m c) (fun w => (dats m 0 c).arrAt w (cfgs 0).N) (Proc.devRef .tc main_v1_1) = (dats m 0 c).arrAt 4 (cfgs 0).N :=
  Pipeline.withArrays_arr spec0 (by decide) c (V0 m c) _ 4

/-- What the trailing reshape leaves in the output's buffer. -/
theorem v2_eq (c : Dev nD) : Pipeline.afterTail₀ cfgs (dats m) 0 (V0 m) [hostOps1] c main_v2 = Cert.ReferenceIdeal.Val.RO (aX m c) (aW m c) (aS m c) := by
  have h : Pipeline.afterTail₀ cfgs (dats m) 0 (V0 m) [hostOps1] c main_v2 = shapeCast S6x1408x1536 ((dats m 0 c).arrAt 3 (cfgs 0).N) shapeCasts_S8448x1536_S6x1408x1536 := by
    unfold Pipeline.afterTail₀
    refine (tail_v2 _).trans ?_
    exact congrArg (fun v => shapeCast S6x1408x1536 v shapeCasts_S8448x1536_S6x1408x1536) (withArrays_3 m c)
  rw [h, final3]
  funext y
  obtain ⟨b, s, q, rfl⟩ : ∃ (b : Fin 6) (s : Fin 1408) (q : Fin 1536), y = ix3 b s q := ⟨_, _, _, eq_ix3 y⟩
  refine Eq.trans ?_ (out_eq m c b s q ⟨1408 * b.val + s.val, by omega⟩ rfl)
  refine shapeCast_apply _ _ _ (ix2 (⟨1408 * b.val + s.val, by omega⟩ : Fin 8448) q) ?_
  rw [Shape.rowMajor_val_two _, Shape.rowMajor_val_three _]
  show (1408 * b.val + s.val) * 1536 + q.val = (b.val * 1408 + s.val) * 1536 + q.val
  omega

/-- What the trailing reshape leaves in the codes' buffer. -/
theorem v3_eq (c : Dev nD) : Pipeline.afterTail₀ cfgs (dats m) 0 (V0 m) [hostOps1] c main_v3 = Cert.ReferenceIdeal.Val.RC (aX m c) := by
  have h : Pipeline.afterTail₀ cfgs (dats m) 0 (V0 m) [hostOps1] c main_v3 = shapeCast S6x1408x1536 ((dats m 0 c).arrAt 4 (cfgs 0).N) shapeCasts_S8448x1536_S6x1408x1536 := by
    unfold Pipeline.afterTail₀
    refine (tail_v3 _).trans ?_
    exact congrArg (fun v => shapeCast S6x1408x1536 v shapeCasts_S8448x1536_S6x1408x1536) (withArrays_4 m c)
  rw [h, final4]
  funext y
  obtain ⟨b, s, q, rfl⟩ : ∃ (b : Fin 6) (s : Fin 1408) (q : Fin 1536), y = ix3 b s q := ⟨_, _, _, eq_ix3 y⟩
  refine Eq.trans ?_ (codes_eq m c b s q ⟨1408 * b.val + s.val, by omega⟩ rfl)
  refine shapeCast_apply _ _ _ (ix2 (⟨1408 * b.val + s.val, by omega⟩ : Fin 8448) q) ?_
  rw [Shape.rowMajor_val_two _, Shape.rowMajor_val_three _]
  show (1408 * b.val + s.val) * 1536 + q.val = (b.val * 1408 + s.val) * 1536 + q.val
  omega

/-- Where the frame run ends, the three results are the reference's three functions of the arguments. -/
theorem results (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v2) = Cert.ReferenceIdeal.Val.RO (aX m c) (aW m c) (aS m c)
    ∧ r.2.mem ((c.tc : Thread nD τ).loc main_v3) = Cert.ReferenceIdeal.Val.RC (aX m c)
    ∧ r.2.mem ((c.tc : Thread nD τ).loc main_v1_2) = Cert.ReferenceIdeal.Val.RS (aX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine ⟨?_, ?_, ?_, ?_, ?_, ?_⟩
  · exact ((h c).2 main_v2 (Pipeline.mem_restRefs_of main_v2 (by decide) (by decide))).trans (v2_eq m c)
  · exact ((h c).2 main_v3 (Pipeline.mem_restRefs_of main_v3 (by decide) (by decide))).trans (v3_eq m c)
  · exact ((h c).1 5).trans (v1_2_eq m c)
  · exact ((h c).2 main_arg0 (Pipeline.mem_restRefs_of main_arg0 (by decide) (by decide))).trans (W_main_arg0 m (dats m) c)
  · exact ((h c).1 1).trans (((dats m 0 c).arrAt_in 1 (by decide) _).trans (V_main_arg1 m c))
  · exact ((h c).1 2).trans (((dats m 0 c).arrAt_in 2 (by decide) _).trans (V_main_arg2 m c))

/-- The kernel's run ends with the reference's three functions of the arguments. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v2) = Cert.ReferenceIdeal.Val.RO (aX m c) (aW m c) (aS m c)
      ∧ r.2.mem ((c.tc : Thread nD τ).loc main_v3) = Cert.ReferenceIdeal.Val.RC (aX m c)
      ∧ r.2.mem ((c.tc : Thread nD τ).loc main_v1_2) = Cert.ReferenceIdeal.Val.RS (aX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h => results m r h) (run_main m g)

/-- The frame: every run ends, the arguments are unchanged and every counter is back at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (results m r h.1 c).2.2.2, h.2⟩) (run_main_quiescent m g)

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.ForgetKernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Val.Final
public import Idealize.ShloMosaic.Adequacy
public import Idealize.ShloMosaic.Init

@[expose] public section

noncomputable section

namespace Cert.Proof

open Idealize.ShloMosaic Idealize.SL.Sem Cert.Kernel

/-- Both runs end with the same three functions of the arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, Cert.KernelIdeal.Val.run m g, (θ_run _ _ _).mono (fun r h c => ?_) (Cert.ReferenceIdeal.Val.run m' g')⟩
  obtain ⟨h0, h1, h2, ha⟩ := h c
  obtain ⟨e0, e1, e2⟩ := hagree c
  rw [e0, e1, e2] at h0
  rw [e0] at h1 h2
  exact ⟨h0, h1, h2, ha⟩

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Val.frame m ρ, Cert.ReferenceIdeal.Val.quiescentRI, trivial, algebraic⟩

end Cert.Proof

end
